-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S50x1024 : Shape := ⟨2, ![50, 1024]⟩
abbrev S100000x128 : Shape := ⟨2, ![100000, 128]⟩
abbrev S1024x128 : Shape := ⟨2, ![1024, 128]⟩
abbrev S1024x256 : Shape := ⟨2, ![1024, 256]⟩
abbrev S1024 : Shape := ⟨1, ![1024]⟩
abbrev S256x256 : Shape := ⟨2, ![256, 256]⟩
abbrev S256 : Shape := ⟨1, ![256]⟩
abbrev S6x256 : Shape := ⟨2, ![6, 256]⟩
abbrev S6 : Shape := ⟨1, ![6]⟩
abbrev S_ : Shape := ⟨0, ![]⟩

class Facts : Prop where
  bcast_S_S50x1024 : S_.BroadcastsInDim S50x1024 (![] : Fin 0 → Fin S50x1024.rank)
  reducesTo_S50x1024_S_d0_1 : S50x1024.ReducesTo [0, 1] S_
  h_S_ : 0 < S_.numel

variable [Facts]

def fn {F : FTy → Type} [FloatOps F] (main_arg0 : IVec S50x1024 32) (main_arg1 : FVec F S100000x128 .f32) (main_arg2 : FVec F S1024x128 .f32) (main_arg3 : FVec F S1024x256 .f32) (main_arg4 : FVec F S1024 .f32) (main_arg5 : FVec F S1024 .f32) (main_arg6 : FVec F S256x256 .f32) (main_arg7 : FVec F S256 .f32) (main_arg8 : FVec F S6x256 .f32) (main_arg9 : FVec F S6 .f32) : IVec S_ 1 :=
  let main_c : IVec S_ 32 := constantI S_ 32 0#32
  let main_v0 : IVec S50x1024 32 := broadcastInDim S50x1024 ![] bcast_S_S50x1024 main_c
  let main_v1 : IVec S50x1024 1 := cmpi .sge main_arg0 main_v0
  let main_c_0 : IVec S_ 32 := constantI S_ 32 100000#32
  let main_v2 : IVec S50x1024 32 := broadcastInDim S50x1024 ![] bcast_S_S50x1024 main_c_0
  let main_v3 : IVec S50x1024 1 := cmpi .slt main_arg0 main_v2
  let main_v4 : IVec S50x1024 1 := andi main_v1 main_v3
  let main_c_1 : IVec S_ 1 := constantI S_ 1 1#1
  let main_v5 : IVec S_ 1 := (fun x v => Host.reduce IntOp.andi x v reducesTo_S50x1024_S_d0_1 h_S_) main_v4 main_c_1
  main_v5
-- ==== Kernel.lean ====
abbrev S50x1024 : Shape := ⟨2, ![50, 1024]⟩
abbrev S100000x128 : Shape := ⟨2, ![100000, 128]⟩
abbrev S1024x128 : Shape := ⟨2, ![1024, 128]⟩
abbrev S1024x256 : Shape := ⟨2, ![1024, 256]⟩
abbrev S1024 : Shape := ⟨1, ![1024]⟩
abbrev S256x256 : Shape := ⟨2, ![256, 256]⟩
abbrev S256 : Shape := ⟨1, ![256]⟩
abbrev S6x256 : Shape := ⟨2, ![6, 256]⟩
abbrev S6 : Shape := ⟨1, ![6]⟩
abbrev S51200 : Shape := ⟨1, ![51200]⟩
abbrev S51200x128 : Shape := ⟨2, ![51200, 128]⟩
abbrev S1600 : Shape := ⟨1, ![1600]⟩
abbrev S80x128 : Shape := ⟨2, ![80, 128]⟩
abbrev S_ : Shape := ⟨0, ![]⟩
abbrev S80 : Shape := ⟨1, ![80]⟩
abbrev S50x1024x128 : Shape := ⟨3, ![50, 1024, 128]⟩
abbrev S128x1024 : Shape := ⟨2, ![128, 1024]⟩
abbrev S128x256 : Shape := ⟨2, ![128, 256]⟩
abbrev S256x1024 : Shape := ⟨2, ![256, 1024]⟩
abbrev S1x1024 : Shape := ⟨2, ![1, 1024]⟩
abbrev S8x1024 : Shape := ⟨2, ![8, 1024]⟩
abbrev S1x256 : Shape := ⟨2, ![1, 256]⟩
abbrev S8x256 : Shape := ⟨2, ![8, 256]⟩
abbrev S256x128 : Shape := ⟨2, ![256, 128]⟩
abbrev S256x6 : Shape := ⟨2, ![256, 6]⟩
abbrev S1 : Shape := ⟨1, ![1]⟩
abbrev S128 : Shape := ⟨1, ![128]⟩
abbrev S1x128 : Shape := ⟨2, ![1, 128]⟩
abbrev S8x128 : Shape := ⟨2, ![8, 128]⟩
abbrev S1x1024x128 : Shape := ⟨3, ![1, 1024, 128]⟩
abbrev S1024x1024 : Shape := ⟨2, ![1024, 1024]⟩
abbrev S1024x768 : Shape := ⟨2, ![1024, 768]⟩
abbrev S1024x6 : Shape := ⟨2, ![1024, 6]⟩

abbrev nBuf : Table → Nat
  | .hbm => 81
  | .local .tc .vmem => 14
  | .local .scVector .vmem => 3
  | _ => 0

abbrev bufTy : (tb : Table) → Fin (nBuf tb) → BufTy
  | .hbm, ⟨0, _⟩ => ⟨S50x1024, .i32⟩
  | .hbm, ⟨1, _⟩ => ⟨S100000x128, .f32⟩
  | .hbm, ⟨2, _⟩ => ⟨S1024x128, .f32⟩
  | .hbm, ⟨3, _⟩ => ⟨S1024x256, .f32⟩
  | .hbm, ⟨4, _⟩ => ⟨S1024, .f32⟩
  | .hbm, ⟨5, _⟩ => ⟨S1024, .f32⟩
  | .hbm, ⟨6, _⟩ => ⟨S256x256, .f32⟩
  | .hbm, ⟨7, _⟩ => ⟨S256, .f32⟩
  | .hbm, ⟨8, _⟩ => ⟨S6x256, .f32⟩
  | .hbm, ⟨9, _⟩ => ⟨S6, .f32⟩
  | .hbm, ⟨10, _⟩ => ⟨S51200, .i32⟩
  | .hbm, ⟨11, _⟩ => ⟨S51200x128, .f32⟩
  | .hbm, ⟨12, _⟩ => ⟨S50x1024x128, .f32⟩
  | .hbm, ⟨13, _⟩ => ⟨S128x1024, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S128x1024, .f32⟩
  | .hbm, ⟨28, _⟩ => ⟨S128x1024, .bf16⟩
  | .hbm, ⟨29, _⟩ => ⟨S256x1024, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S256x1024, .f32⟩
  | .hbm, ⟨44, _⟩ => ⟨S256x1024, .bf16⟩
  | .hbm, ⟨45, _⟩ => ⟨S1024, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S1024, .f32⟩
  | .hbm, ⟨60, _⟩ => ⟨S1x1024, .f32⟩
  | .hbm, ⟨61, _⟩ => ⟨S8x1024, .f32⟩
  | .hbm, ⟨62, _⟩ => ⟨S256x256, .f32⟩
  | .hbm, ⟨63, _⟩ => ⟨S1x256, .f32⟩
  | .hbm, ⟨64, _⟩ => ⟨S8x256, .f32⟩
  | .hbm, ⟨65, _⟩ => ⟨S_, .f32⟩
  | .hbm, ⟨66, _⟩ => ⟨S256x128, .f32⟩
  | .hbm, ⟨67, _⟩ => ⟨S256x6, .f32⟩
  | .hbm, ⟨68, _⟩ => ⟨S_, .i32⟩
  | .hbm, ⟨69, _⟩ => ⟨S1, .i32⟩
  | .hbm, ⟨70, _⟩ => ⟨S256x128, .f32⟩
  | .hbm, ⟨71, _⟩ => ⟨S_, .f32⟩
  | .hbm, ⟨72, _⟩ => ⟨S128, .f32⟩
  | .hbm, ⟨73, _⟩ => ⟨S_, .i32⟩
  | .hbm, ⟨74, _⟩ => ⟨S1, .i32⟩
  | .hbm, ⟨75, _⟩ => ⟨S128, .f32⟩
  | .hbm, ⟨76, _⟩ => ⟨S1x128, .f32⟩
  | .hbm, ⟨77, _⟩ => ⟨S8x128, .f32⟩
  | .hbm, ⟨78, _⟩ => ⟨S1x1024x128, .f32⟩
  | .hbm, ⟨79, _⟩ => ⟨S1024x128, .f32⟩
  | .hbm, ⟨80, _⟩ => ⟨S1024x6, .f32⟩
  | .local .tc .vmem, ⟨0, _⟩ => ⟨S1x1024x128, .f32⟩
  | .local .tc .vmem, ⟨1, _⟩ => ⟨S1x1024x128, .f32⟩
  | .local .tc .vmem, ⟨2, _⟩ => ⟨S1x1024x128, .f32⟩
  | .local .tc .vmem, ⟨3, _⟩ => ⟨S128x1024, .bf16⟩
  | .local .tc .vmem, ⟨4, _⟩ => ⟨S256x1024, .bf16⟩
  | .local .tc .vmem, ⟨5, _⟩ => ⟨S8x1024, .f32⟩
  | .local .tc .vmem, ⟨6, _⟩ => ⟨S256x256, .f32⟩
  | .local .tc .vmem, ⟨7, _⟩ => ⟨S8x256, .f32⟩
  | .local .tc .vmem, ⟨8, _⟩ => ⟨S256x128, .f32⟩
  | .local .tc .vmem, ⟨9, _⟩ => ⟨S8x128, .f32⟩
  | .local .tc .vmem, ⟨10, _⟩ => ⟨S1024x128, .f32⟩
  | .local .tc .vmem, ⟨11, _⟩ => ⟨S1024x256, .f32⟩
  | .local .tc .vmem, ⟨12, _⟩ => ⟨S1024x256, .f32⟩
  | .local .tc .vmem, ⟨13, _⟩ => ⟨S1024x1024, .f32⟩
  | .local .scVector .vmem, ⟨0, _⟩ => ⟨S1600, .i32⟩
  | .local .scVector .vmem, ⟨1, _⟩ => ⟨S80x128, .f32⟩
  | .local .scVector .vmem, ⟨2, _⟩ => ⟨S80x128, .f32⟩
  | _, _ => ⟨S50x1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_c : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_arg1_scv : Ref sig .scVector := ⟨.hbm, 1, rfl⟩
abbrev main_v0_scv : Ref sig .scVector := ⟨.hbm, 10, rfl⟩
abbrev main_v1_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 23
abbrev cc1_sem0_1 : DmaSem sig := 24
abbrev cc1_sem1_0 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v9 : BitVec 32 := Scalar.addi v2 c0_i32_7
  let c0_i32_120_r1 : BitVec 32 := 0#32
  ![v9.toNat, 0]
abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v50 : BitVec 1 := Scalar.cmpi .eq arg0 c49_i32
  let v51 : BitVec 32 := Scalar.extui v50
  let c0_i32_25 : BitVec 32 := 0#32
  let v52 : BitVec 1 := Scalar.cmpi .ne v51 c0_i32_25
  v52

def cc1_transform_0 (i : grid1.Coords) : Fin 3 → Nat :=
  let arg0 : BitVec 32 := BitVec.ofNat 32 (i 0).val
  let c1_i32 : BitVec 32 := 1#32
  let v0 : BitVec 32 := Scalar.addi arg0 c1_i32
  let c49_i32 : BitVec 32 := 49#32
  let v1 : BitVec 32 := Scalar.minsi v0 c49_i32
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50x1024 : Shape := ⟨2, ![50, 1024]⟩
abbrev S100000x128 : Shape := ⟨2, ![100000, 128]⟩
abbrev S1024x128 : Shape := ⟨2, ![1024, 128]⟩
abbrev S1024x256 : Shape := ⟨2, ![1024, 256]⟩
abbrev S1024 : Shape := ⟨1, ![1024]⟩
abbrev S256x256 : Shape := ⟨2, ![256, 256]⟩
abbrev S256 : Shape := ⟨1, ![256]⟩
abbrev S6x256 : Shape := ⟨2, ![6, 256]⟩
abbrev S6 : Shape := ⟨1, ![6]⟩
abbrev S_ : Shape := ⟨0, ![]⟩
abbrev S50x1024x1 : Shape := ⟨3, ![50, 1024, 1]⟩
abbrev S1 : Shape := ⟨1, ![1]⟩
abbrev S1x1x1 : Shape := ⟨3, ![1, 1, 1]⟩
abbrev S50x1024x128 : Shape := ⟨3, ![50, 1024, 128]⟩
abbrev S1x1024x128 : Shape := ⟨3, ![1, 1024, 128]⟩
abbrev S128x1024 : Shape := ⟨2, ![128, 1024]⟩
abbrev S1024x1024 : Shape := ⟨2, ![1024, 1024]⟩
abbrev S1x1024 : Shape := ⟨2, ![1, 1024]⟩
abbrev S256x1024 : Shape := ⟨2, ![256, 1024]⟩
abbrev S1x256 : Shape := ⟨2, ![1, 256]⟩
abbrev S256x6 : Shape := ⟨2, ![256, 6]⟩
abbrev S1024x6 : Shape := ⟨2, ![1024, 6]⟩
abbrev S1x6 : Shape := ⟨2, ![1, 6]⟩

abbrev nBuf : Space → Nat
  | .hbm => 109
  | .vmem => 0
  | .smem => 0
  | _ => 0

abbrev bufTy : (tb : Table) → Fin (tcTables nBuf tb) → BufTy
  | .hbm, ⟨0, _⟩ => ⟨S50x1024, .i32⟩
  | .hbm, ⟨1, _⟩ => ⟨S100000x128, .f32⟩
  | .hbm, ⟨2, _⟩ => ⟨S1024x128, .f32⟩
  | .hbm, ⟨3, _⟩ => ⟨S1024x256, .f32⟩
  | .hbm, ⟨4, _⟩ => ⟨S1024, .f32⟩
  | .hbm, ⟨5, _⟩ => ⟨S1024, .f32⟩
  | .hbm, ⟨6, _⟩ => ⟨S256x256, .f32⟩
  | .hbm, ⟨7, _⟩ => ⟨S256, .f32⟩
  | .hbm, ⟨8, _⟩ => ⟨S6x256, .f32⟩
  | .hbm, ⟨9, _⟩ => ⟨S6, .f32⟩
  | .hbm, ⟨10, _⟩ => ⟨S_, .i32⟩
  | .hbm, ⟨11, _⟩ => ⟨S50x1024, .i32⟩
  | .hbm, ⟨12, _⟩ => ⟨S50x1024, .i1⟩
  | .hbm, ⟨13, _⟩ => ⟨S_, .i32⟩
  | .hbm, ⟨14, _⟩ => ⟨S50x1024, .i32⟩
  | .hbm, ⟨15, _⟩ => ⟨S50x1024, .i32⟩
  | .hbm, ⟨16, _⟩ => ⟨S50x1024, .i32⟩
  | .hbm, ⟨17, _⟩ => ⟨S50x1024x1, .i32⟩
  | .hbm, ⟨18, _⟩ => ⟨S1, .i32⟩
  | .hbm, ⟨19, _⟩ => ⟨S_, .i32⟩
  | .hbm, ⟨20, _⟩ => ⟨S50x1024x1, .i32⟩
  | .hbm, ⟨21, _⟩ => ⟨S50x1024x1, .i1⟩
  | .hbm, ⟨22, _⟩ => ⟨S1x1x1, .i32⟩
  | .hbm, ⟨23, _⟩ => ⟨S50x1024x1, .i32⟩
  | .hbm, ⟨24, _⟩ => ⟨S50x1024x1, .i1⟩
  | .hbm, ⟨25, _⟩ => ⟨S50x1024x1, .i1⟩
  | .hbm, ⟨26, _⟩ => ⟨S_, .i1⟩
  | .hbm, ⟨27, _⟩ => ⟨S50x1024, .i1⟩
  | .hbm, ⟨28, _⟩ => ⟨S50x1024x128, .f32⟩
  | .hbm, ⟨29, _⟩ => ⟨S50x1024x128, .i1⟩
  | .hbm, ⟨30, _⟩ => ⟨S_, .f32⟩
  | .hbm, ⟨31, _⟩ => ⟨S50x1024x128, .f32⟩
  | .hbm, ⟨32, _⟩ => ⟨S50x1024x128, .f32⟩
  | .hbm, ⟨33, _⟩ => ⟨S_, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S_, .i32⟩
  | .hbm, ⟨38, _⟩ => ⟨S50x1024x128, .f32⟩
  | .hbm, ⟨39, _⟩ => ⟨S1024x128, .f32⟩
  | .hbm, ⟨40, _⟩ => ⟨S1024, .f32⟩
  | .hbm, ⟨41, _⟩ => ⟨S1024x256, .f32⟩
  | .hbm, ⟨42, _⟩ => ⟨S1024, .f32⟩
  | .hbm, ⟨43, _⟩ => ⟨S_, .i32⟩
  | .hbm, ⟨44, _⟩ => ⟨S1024x256, .f32⟩
  | .hbm, ⟨45, _⟩ => ⟨S1024x256, .f32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S1x1024x128, .f32⟩
  | .hbm, ⟨51, _⟩ => ⟨S1024x128, .f32⟩
  | .hbm, ⟨52, _⟩ => ⟨S128x1024, .f32⟩
  | .hbm, ⟨53, _⟩ => ⟨S1024x1024, .f32⟩
  | .hbm, ⟨54, _⟩ => ⟨S1x1024, .f32⟩
  | .hbm, ⟨55, _⟩ => ⟨S1024x1024, .f32⟩
  | .hbm, ⟨56, _⟩ => ⟨S1024x1024, .f32⟩
  | .hbm, ⟨57, _⟩ => ⟨S256x1024, .f32⟩
  | .hbm, ⟨58, _⟩ => ⟨S1024x1024, .f32⟩
  | .hbm, ⟨59, _⟩ => ⟨S1024x1024, .f32⟩
  | .hbm, ⟨60, _⟩ => ⟨S1x1024, .f32⟩
  | .hbm, ⟨61, _⟩ => ⟨S1024x1024, .f32⟩
  | .hbm, ⟨62, _⟩ => ⟨S1024x1024, .f32⟩
  | .hbm, ⟨63, _⟩ => ⟨S1024x256, .f32⟩
  | .hbm, ⟨64, _⟩ => ⟨S1024x256, .f32⟩
  | .hbm, ⟨65, _⟩ => ⟨S1024x256, .f32⟩
  | .hbm, ⟨66, _⟩ => ⟨S1024x256, .f32⟩
  | .hbm, ⟨67, _⟩ => ⟨S1024x256, .f32⟩
  | .hbm, ⟨68, _⟩ => ⟨S1024x256, .f32⟩
  | .hbm, ⟨69, _⟩ => ⟨S_, .f32⟩
  | .hbm, ⟨70, _⟩ => ⟨S1024x256, .f32⟩
  | .hbm, ⟨71, _⟩ => ⟨S1024x256, .f32⟩
  | .hbm, ⟨72, _⟩ => ⟨S_, .f32⟩
  | .hbm, ⟨73, _⟩ => ⟨S1024x256, .f32⟩
  | .hbm, ⟨74, _⟩ => ⟨S1024x256, .f32⟩
  | .hbm, ⟨75, _⟩ => ⟨S1024x256, .f32⟩
  | .hbm, ⟨76, _⟩ => ⟨S1024x256, .f32⟩
  | .hbm, ⟨77, _⟩ => ⟨S_, .f32⟩
  | .hbm, ⟨78, _⟩ => ⟨S1024x256, .f32⟩
  | .hbm, ⟨79, _⟩ => ⟨S1024x256, .f32⟩
  | .hbm, ⟨80, _⟩ => ⟨S_, .f32⟩
  | .hbm, ⟨81, _⟩ => ⟨S1024x256, .f32⟩
  | .hbm, ⟨82, _⟩ => ⟨S1024x256, .f32⟩
  | .hbm, ⟨83, _⟩ => ⟨S1024x256, .f32⟩
  | .hbm, ⟨84, _⟩ => ⟨S1024x256, .f32⟩
  | .hbm, ⟨85, _⟩ => ⟨S1024x256, .f32⟩
  | .hbm, ⟨86, _⟩ => ⟨S_, .f32⟩
  | .hbm, ⟨87, _⟩ => ⟨S1024x256, .f32⟩
  | .hbm, ⟨88, _⟩ => ⟨S1024x256, .f32⟩
  | .hbm, ⟨89, _⟩ => ⟨S_, .f32⟩
  | .hbm, ⟨90, _⟩ => ⟨S1024x256, .f32⟩
  | .hbm, ⟨91, _⟩ => ⟨S1024x256, .f32⟩
  | .hbm, ⟨92, _⟩ => ⟨S1024x256, .f32⟩
  | .hbm, ⟨93, _⟩ => ⟨S1024x256, .f32⟩
  | .hbm, ⟨94, _⟩ => ⟨S1024x256, .f32⟩
  | .hbm, ⟨95, _⟩ => ⟨S1024x256, .f32⟩
  | .hbm, ⟨96, _⟩ => ⟨S1024x256, .f32⟩
  | .hbm, ⟨97, _⟩ => ⟨S_, .i32⟩
  | .hbm, ⟨98, _⟩ => ⟨S_, .i32⟩
  | .hbm, ⟨99, _⟩ => ⟨S256x256, .f32⟩
  | .hbm, ⟨100, _⟩ => ⟨S1024x256, .f32⟩
  | .hbm, ⟨101, _⟩ => ⟨S1x256, .f32⟩
  | .hbm, ⟨102, _⟩ => ⟨S1024x256, .f32⟩
  | .hbm, ⟨103, _⟩ => ⟨S1024x256, .f32⟩
  | .hbm, ⟨104, _⟩ => ⟨S256x6, .f32⟩
  | .hbm, ⟨105, _⟩ => ⟨S1024x6, .f32⟩
  | .hbm, ⟨106, _⟩ => ⟨S1x6, .f32⟩
  | .hbm, ⟨107, _⟩ => ⟨S1024x6, .f32⟩
  | .hbm, ⟨108, _⟩ => ⟨S1024x6, .f32⟩
  | _, _ => ⟨S50x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_c : Ref sig .tc := ⟨.hbm, 37, rfl⟩
abbrev main_v3_0 : Ref sig .tc := ⟨.hbm, 38, rfl⟩
abbrev main_v3_1 : Ref sig .tc := ⟨.hbm, 39, rfl⟩
abbrev main_v3_2 : Ref sig .tc := ⟨.hbm, 40, rfl⟩
abbrev main_v3_3 : Ref sig .tc := ⟨.hbm, 41, rfl⟩
abbrev main_v3_4 : Ref sig .tc := ⟨.hbm, 42, rfl⟩
abbrev main_v3_5 : Ref sig .tc := ⟨.hbm, 43, rfl⟩
abbrev main_v3_6 : Ref sig .tc := ⟨.hbm, 44, rfl⟩
abbrev main_v3_7 : Ref sig .tc := ⟨.hbm, 45, rfl⟩
abbrev main_while0c_c_8 : Ref sig .tc := ⟨.hbm, 46, rfl⟩
abbrev main_while0c_v14 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_v0 : Ref sig .tc := ⟨.hbm, 50, rfl⟩
abbrev main_while0b_v14 : Ref sig .tc := ⟨.hbm, 51, rfl⟩
abbrev main_while0b_v15 : Ref sig .tc := ⟨.hbm, 52, rfl⟩
abbrev main_while0b_v16 : Ref sig .tc := ⟨.hbm, 53, rfl⟩
abbrev main_while0b_v17 : Ref sig .tc := ⟨.hbm, 54, rfl⟩
abbrev main_while0b_v18 : Ref sig .tc := ⟨.hbm, 55, rfl⟩
abbrev main_while0b_v19 : Ref sig .tc := ⟨.hbm, 56, rfl⟩
abbrev main_while0b_v20 : Ref sig .tc := ⟨.hbm, 57, rfl⟩
abbrev main_while0b_v21 : Ref sig .tc := ⟨.hbm, 58, rfl⟩
abbrev main_while0b_v22 : Ref sig .tc := ⟨.hbm, 59, rfl⟩
abbrev main_while0b_v23 : Ref sig .tc := ⟨.hbm, 60, rfl⟩
abbrev main_while0b_v24 : Ref sig .tc := ⟨.hbm, 61, rfl⟩
abbrev main_while0b_v25 : Ref sig .tc := ⟨.hbm, 62, rfl⟩
abbrev main_while0b_v26 : Ref sig .tc := ⟨.hbm, 63, rfl⟩
abbrev main_while0b_v27 : Ref sig .tc := ⟨.hbm, 64, rfl⟩
abbrev main_while0b_v28 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_cst_8 : Ref sig .tc := ⟨.hbm, 69, rfl⟩
abbrev main_while0b_v32 : Ref sig .tc := ⟨.hbm, 70, rfl⟩
abbrev main_while0b_v33 : Ref sig .tc := ⟨.hbm, 71, rfl⟩
abbrev main_while0b_cst_9 : Ref sig .tc := ⟨.hbm, 72, rfl⟩
abbrev main_while0b_v34 : Ref sig .tc := ⟨.hbm, 73, rfl⟩
abbrev main_while0b_v35 : Ref sig .tc := ⟨.hbm, 74, rfl⟩
abbrev main_while0b_v36 : Ref sig .tc := ⟨.hbm, 75, rfl⟩
abbrev main_while0b_v37 : Ref sig .tc := ⟨.hbm, 76, rfl⟩
abbrev main_while0b_cst_10 : Ref sig .tc := ⟨.hbm, 77, rfl⟩
abbrev main_while0b_v38 : Ref sig .tc := ⟨.hbm, 78, rfl⟩
abbrev main_while0b_v39 : Ref sig .tc := ⟨.hbm, 79, rfl⟩
abbrev main_while0b_cst_11 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_cst_12 : Ref sig .tc := ⟨.hbm, 86, rfl⟩
abbrev main_while0b_v45 : Ref sig .tc := ⟨.hbm, 87, rfl⟩
abbrev main_while0b_v46 : Ref sig .tc := ⟨.hbm, 88, rfl⟩
abbrev main_while0b_cst_13 : Ref sig .tc := ⟨.hbm, 89, rfl⟩
abbrev main_while0b_v47 : Ref sig .tc := ⟨.hbm, 90, rfl⟩
abbrev main_while0b_v48 : Ref sig .tc := ⟨.hbm, 91, rfl⟩
abbrev main_while0b_v49 : Ref sig .tc := ⟨.hbm, 92, rfl⟩
abbrev main_while0b_v50 : Ref sig .tc := ⟨.hbm, 93, rfl⟩
abbrev main_while0b_v51 : Ref sig .tc := ⟨.hbm, 94, rfl⟩
abbrev main_while0b_v52 : Ref sig .tc := ⟨.hbm, 95, rfl⟩
abbrev main_while0b_v53 : Ref sig .tc := ⟨.hbm, 96, rfl⟩
abbrev main_while0b_c_14 : Ref sig .tc := ⟨.hbm, 97, rfl⟩
abbrev main_while0b_v54 : Ref sig .tc := ⟨.hbm, 98, rfl⟩
abbrev main_v4 : Ref sig .tc := ⟨.hbm, 99, rfl⟩
abbrev main_v5 : Ref sig .tc := ⟨.hbm, 100, rfl⟩
abbrev main_v6 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩

abbrev nD : Nat := 1
abbrev τ : Topo := Topo.v7x

variable {F : FTy → Type} [FloatOps F]

abbrev main_while0_count : Scf.Loop 32 := ⟨0#32, 50#32, 1#32⟩
-- ==== Proof.Setup.lean ====
/-
  The kernel's program as the launch theorem takes it: the SparseCore call's record, the table of the bodies, the
  variants, and the resource algebra (the handshakes' rounds, the TensorCore pipeline's rounds, the transfers' counters).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArraysS
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the bodies, with the one pipeline's. -/
abbrev ΛP : Labels := Pipeline.Sig Λ₀ (Fin 1) fun p => (pcfgs (F := F) p).Adm
/-- The SparseCore call's record. -/
abbrev K : SparseCore.Cfg τ sig (ΛP (F := F)) 1 := sc (F := F)
/-- The call runs on two SparseCores -/
theorem nCore_zero : (K (F := F)).nCore 0 = 2 := rfl
/-- of sixteen tiles each. -/
theorem nSub_zero : (K (F := F)).nSub 0 = 16 := rfl
/-- The bodies under the pipeline. -/
abbrev D [FloatOps F] : Defs nD τ sig (Elt F) (ΛP (F := F)) := Pipeline.defs pcfgs defs₀
/-- No loop is measured here, -/
abbrev 𝒱₀ : Variants := Variants.none
/-- nor under the launch, -/
abbrev 𝒱 : Variants := 𝒱₀.lift
/-- so that one variant serves. -/
abbrev v₀ : 𝒱.V := Sum.inl none

/-- What the launch asks of the call's cells: they are distinct and none is scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, -/
abbrev UH : Type := URounds (GSem nD τ sig) ℕ
/-- the pipeline's, -/
abbrev UP : Type := URounds (GSem nD τ sig) Unit
/-- and with them the transfers' counters. -/
abbrev UU : Type := (UH × UP) × Counters

/-- The handshakes' place in the algebra -/
def EH : Emb UH (MT nD τ sig (HIx 1) (Elt F) ℕ UU ℕ) := (Emb.inl : Emb UH (UH × UP)).trans embL
/-- and the pipeline's. -/
def EP : Emb UP (MT nD τ sig (HIx 1) (Elt F) ℕ UU ℕ) := (Emb.inr : Emb UP (UH × UP)).trans embL

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.Run

end
-- ==== Proof.Host.lean ====
/-
  The host program around the two launches: its stretches of operations as lists, what each of them leaves, and the packed
  operands they compute for the TensorCore region.
-/
module

public import proofs.«01_k».proof.Proof.Setup
public import Idealize.ShloMosaic.Lib.StableHlo.Run
public import Idealize.ShloMosaic.Lib.StableHlo.RunClose

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The packed operands -/

/-- The input weights transposed, their gates in the order i, f, o, g with the first three halved, and narrowed. -/
def packX (w : (⟨S1024x128, .f32⟩ : BufTy).Contents (Elt F)) : (⟨S128x1024, .bf16⟩ : BufTy).Contents (Elt F) :=
  truncf .bf16 (concatenate S128x1024 1
    [⟨S128x256, mulf (broadcastInDim S128x256 ![] bcast_S_S128x256 (constant S_ .f32 0x3F000000#32)) (extractStridedSlice S128x256 ![0, 0] (transpose S128x1024 [1, 0] w transposes_S1024x128_S128x1024_1_0) slices_S128x1024_S128x256_0_0)⟩,
     ⟨S128x256, mulf (broadcastInDim S128x256 ![] bcast_S_S128x256 (constant S_ .f32 0x3F000000#32)) (extractStridedSlice S128x256 ![0, 256] (transpose S128x1024 [1, 0] w transposes_S1024x128_S128x1024_1_0) slices_S128x1024_S128x256_0_256)⟩,
     ⟨S128x256, mulf (broadcastInDim S128x256 ![] bcast_S_S128x256 (constant S_ .f32 0x3F000000#32)) (extractStridedSlice S128x256 ![0, 768] (transpose S128x1024 [1, 0] w transposes_S1024x128_S128x1024_1_0) slices_S128x1024_S128x256_0_768)⟩,
     ⟨S128x256, extractStridedSlice S128x256 ![0, 512] (transpose S128x1024 [1, 0] w transposes_S1024x128_S128x1024_1_0) slices_S128x1024_S128x256_0_512⟩]
    concatenates_S128x256_S128x256_S128x256_S128x256_S128x1024_d1) bitsLt_bf16_f32

/-- The recurrent weights packed in the same way. -/
def packH (w : (⟨S1024x256, .f32⟩ : BufTy).Contents (Elt F)) : (⟨S256x1024, .bf16⟩ : BufTy).Contents (Elt F) :=
  truncf .bf16 (concatenate S256x1024 1
    [⟨S256x256, mulf (broadcastInDim S256x256 ![] bcast_S_S256x256 (constant S_ .f32 0x3F000000#32)) (extractStridedSlice S256x256 ![0, 0] (transpose S256x1024 [1, 0] w transposes_S1024x256_S256x1024_1_0) slices_S256x1024_S256x256_0_0)⟩,
     ⟨S256x256, mulf (broadcastInDim S256x256 ![] bcast_S_S256x256 (constant S_ .f32 0x3F000000#32)) (extractStridedSlice S256x256 ![0, 256] (transpose S256x1024 [1, 0] w transposes_S1024x256_S256x1024_1_0) slices_S256x1024_S256x256_0_256)⟩,
     ⟨S256x256, mulf (broadcastInDim S256x256 ![] bcast_S_S256x256 (constant S_ .f32 0x3F000000#32)) (extractStridedSlice S256x256 ![0, 768] (transpose S256x1024 [1, 0] w transposes_S1024x256_S256x1024_1_0) slices_S256x1024_S256x256_0_768)⟩,
     ⟨S256x256, extractStridedSlice S256x256 ![0, 512] (transpose S256x1024 [1, 0] w transposes_S1024x256_S256x1024_1_0) slices_S256x1024_S256x256_0_512⟩]
    concatenates_S256x256_S256x256_S256x256_S256x256_S256x1024_d1) bitsLt_bf16_f32

/-- The two biases summed, packed in the same way, in eight equal rows. -/
def packB (b b' : (⟨S1024, .f32⟩ : BufTy).Contents (Elt F)) : (⟨S8x1024, .f32⟩ : BufTy).Contents (Elt F) :=
  broadcastInDim S8x1024 ![0, 1] bcast_S1x1024_S8x1024_0_1 (broadcastInDim S1x1024 ![1] bcast_S1024_S1x1024_1 (concatenate S1024 0
    [⟨S256, mulf (broadcastInDim S256 ![] bcast_S_S256 (constant S_ .f32 0x3F000000#32)) (extractStridedSlice S256 ![0] (addf b b') slices_S1024_S256_0)⟩,
     ⟨S256, mulf (broadcastInDim S256 ![] bcast_S_S256 (constant S_ .f32 0x3F000000#32)) (extractStridedSlice S256 ![256] (addf b b') slices_S1024_S256_256)⟩,
     ⟨S256, mulf (broadcastInDim S256 ![] bcast_S_S256 (constant S_ .f32 0x3F000000#32)) (extractStridedSlice S256 ![768] (addf b b') slices_S1024_S256_768)⟩,
     ⟨S256, extractStridedSlice S256 ![512] (addf b b') slices_S1024_S256_512⟩]
    concatenates_S256_S256_S256_S256_S1024_d0))

/-- The first readout layer's weights, transposed. -/
def linW (w : (⟨S256x256, .f32⟩ : BufTy).Contents (Elt F)) : (⟨S256x256, .f32⟩ : BufTy).Contents (Elt F) :=
  transpose S256x256 [1, 0] w transposes_S256x256_S256x256_1_0

/-- The first readout layer's bias in eight equal rows. -/
def linB (b : (⟨S256, .f32⟩ : BufTy).Contents (Elt F)) : (⟨S8x256, .f32⟩ : BufTy).Contents (Elt F) :=
  broadcastInDim S8x256 ![0, 1] bcast_S1x256_S8x256_0_1 (broadcastInDim S1x256 ![1] bcast_S256_S1x256_1 b)

/-- The second readout layer's weights, transposed and padded with zeros to 128 columns. -/
def outW (w : (⟨S6x256, .f32⟩ : BufTy).Contents (Elt F)) : (⟨S256x128, .f32⟩ : BufTy).Contents (Elt F) :=
  Host.scatter scatter_S256x128_S1_S256x6_01_n_1_0 (fun _ b => b)
    (broadcastInDim S256x128 ![] bcast_S_S256x128 (constant S_ .f32 0x00000000#32) : (⟨S256x128, .f32⟩ : BufTy).Contents (Elt F))
    (broadcastInDim S1 ![] bcast_S_S1 (constantI S_ 32 0#32) : (⟨S1, .i32⟩ : BufTy).Contents (Elt F))
    (transpose S256x6 [1, 0] w transposes_S6x256_S256x6_1_0 : (⟨S256x6, .f32⟩ : BufTy).Contents (Elt F))

/-- The second readout layer's bias padded with zeros to 128 entries, in eight equal rows. -/
def outB (b : (⟨S6, .f32⟩ : BufTy).Contents (Elt F)) : (⟨S8x128, .f32⟩ : BufTy).Contents (Elt F) :=
  broadcastInDim S8x128 ![0, 1] bcast_S1x128_S8x128_0_1 (broadcastInDim S1x128 ![1] bcast_S128_S1x128_1
    (Host.scatter scatter_S128_S1_S6_0_n_0_0 (fun _ b => b)
      (broadcastInDim S128 ![] bcast_S_S128 (constant S_ .f32 0x00000000#32) : (⟨S128, .f32⟩ : BufTy).Contents (Elt F))
      (broadcastInDim S1 ![] bcast_S_S1 (constantI S_ 32 0#32) : (⟨S1, .i32⟩ : BufTy).Contents (Elt F)) b))

/-- The gathered rows as the embedded sequence. -/
def asSeq (g : (⟨S51200x128, .f32⟩ : BufTy).Contents (Elt F)) : (⟨S50x1024x128, .f32⟩ : BufTy).Contents (Elt F) :=
  shapeCast S50x1024x128 g shapeCasts_S51200x128_S50x1024x128

/-- The first step's rows of it. -/
def firstRows (x : (⟨S50x1024x128, .f32⟩ : BufTy).Contents (Elt F)) : (⟨S1x1024x128, .f32⟩ : BufTy).Contents (Elt F) :=
  extractStridedSlice S1x1024x128 ![0, 0, 0] x slices_S50x1024x128_S1x1024x128_0_0_0

/-! ## The stretches of operations -/

/-- The indices flattened. -/
def opsIn : List (HloOp τ sig (Elt F)) :=
  [StableHlo.reshape main_arg0 main_v0 (rfl : (.i32 : EltTy) = .i32) shapeCasts_S50x1024_S51200]

/-- What `opsIn` writes. -/
def opsIn_dst : List (Ref sig .tc) := [main_v0]

/-- The flattening: what is written. -/
theorem opsIn_writes : (opsIn (F := F)).Forall fun op => op.writes ⊆ (opsIn_dst.map (Proc.devRef (τ := τ) .tc)).toFinset :=
  StableHlo.forall_writes_sub_of_map rfl

/-- The flattening: nothing is allocated. -/
theorem opsIn_fresh : (opsIn (F := F)).Forall fun op => op.fresh = ∅ :=
  StableHlo.forall_fresh_of_map rfl

/-- The flattening: every buffer is the TensorCore's. -/
theorem opsIn_sub : (opsIn (F := F)).Forall fun op => op.bufs ⊆ StableHlo.tcRefs τ sig :=
  StableHlo.reshape_bufs_sub ..

/-- The gathered rows as a sequence, and the input weights packed. -/
def opsX : List (HloOp τ sig (Elt F)) :=
  [StableHlo.reshape main_v1 main_v2 (rfl : (.f32 : EltTy) = .f32) shapeCasts_S51200x128_S50x1024x128,
   StableHlo.unary main_arg2 main_v3 ((transpose S128x1024 [1, 0] · transposes_S1024x128_S128x1024_1_0) : (⟨S1024x128, .f32⟩ : BufTy).Contents (Elt F) → (⟨S128x1024, .f32⟩ : BufTy).Contents (Elt F)),
   StableHlo.unary main_v3 main_v4 ((extractStridedSlice S128x256 ![0, 0] · slices_S128x1024_S128x256_0_0) : (⟨S128x1024, .f32⟩ : BufTy).Contents (Elt F) → (⟨S128x256, .f32⟩ : BufTy).Contents (Elt F)),
   StableHlo.unary main_v3 main_v5 ((extractStridedSlice S128x256 ![0, 256] · slices_S128x1024_S128x256_0_256) : (⟨S128x1024, .f32⟩ : BufTy).Contents (Elt F) → (⟨S128x256, .f32⟩ : BufTy).Contents (Elt F)),
   StableHlo.unary main_v3 main_v6 ((extractStridedSlice S128x256 ![0, 512] · slices_S128x1024_S128x256_0_512) : (⟨S128x1024, .f32⟩ : BufTy).Contents (Elt F) → (⟨S128x256, .f32⟩ : BufTy).Contents (Elt F)),
   StableHlo.unary main_v3 main_v7 ((extractStridedSlice S128x256 ![0, 768] · slices_S128x1024_S128x256_0_768) : (⟨S128x1024, .f32⟩ : BufTy).Contents (Elt F) → (⟨S128x256, .f32⟩ : BufTy).Contents (Elt F)),
   StableHlo.nullary main_cst (constant S_ .f32 0x3F000000#32),
   StableHlo.unary main_cst main_v8 (broadcastInDim S128x256 ![] bcast_S_S128x256 : (⟨S_, .f32⟩ : BufTy).Contents (Elt F) → (⟨S128x256, .f32⟩ : BufTy).Contents (Elt F)),
   StableHlo.binary main_v8 main_v4 main_v9 (mulf : (⟨S128x256, .f32⟩ : BufTy).Contents (Elt F) → (⟨S128x256, .f32⟩ : BufTy).Contents (Elt F) → (⟨S128x256, .f32⟩ : BufTy).Contents (Elt F)),
   StableHlo.nullary main_cst_0 (constant S_ .f32 0x3F000000#32),
   StableHlo.unary main_cst_0 main_v10 (broadcastInDim S128x256 ![] bcast_S_S128x256 : (⟨S_, .f32⟩ : BufTy).Contents (Elt F) → (⟨S128x256, .f32⟩ : BufTy).Contents (Elt F)),
   StableHlo.binary main_v10 main_v5 main_v11 (mulf : (⟨S128x256, .f32⟩ : BufTy).Contents (Elt F) → (⟨S128x256, .f32⟩ : BufTy).Contents (Elt F) → (⟨S128x256, .f32⟩ : BufTy).Contents (Elt F)),
   StableHlo.nullary main_cst_1 (constant S_ .f32 0x3F000000#32),
   StableHlo.unary main_cst_1 main_v12 (broadcastInDim S128x256 ![] bcast_S_S128x256 : (⟨S_, .f32⟩ : BufTy).Contents (Elt F) → (⟨S128x256, .f32⟩ : BufTy).Contents (Elt F)),
   StableHlo.binary main_v12 main_v7 main_v13 (mulf : (⟨S128x256, .f32⟩ : BufTy).Contents (Elt F) → (⟨S128x256, .f32⟩ : BufTy).Contents (Elt F) → (⟨S128x256, .f32⟩ : BufTy).Contents (Elt F)),
   StableHlo.nary ![main_v9, main_v11, main_v13, main_v6] main_v14 (fun u => (concatenate S128x1024 1 [⟨S128x256, (u 0 : (⟨S128x256, .f32⟩ : BufTy).Contents (Elt F))⟩, ⟨S128x256, (u 1 : (⟨S128x256, .f32⟩ : BufTy).Contents (Elt F))⟩, ⟨S128x256, (u 2 : (⟨S128x256, .f32⟩ : BufTy).Contents (Elt F))⟩, ⟨S128x256, (u 3 : (⟨S128x256, .f32⟩ : BufTy).Contents (Elt F))⟩] concatenates_S128x256_S128x256_S128x256_S128x256_S128x1024_d1 : (⟨S128x1024, .f32⟩ : BufTy).Contents (Elt F))),
   StableHlo.unary main_v14 main_v15 ((truncf .bf16 · bitsLt_bf16_f32) : (⟨S128x1024, .f32⟩ : BufTy).Contents (Elt F) → (⟨S128x1024, .bf16⟩ : BufTy).Contents (Elt F))]

/-- What `opsX` writes. -/
def opsX_dst : List (Ref sig .tc) := [main_v2, main_v3, main_v4, main_v5, main_v6, main_v7, main_cst, main_v8, main_v9, main_cst_0, main_v10, main_v11, main_cst_1, main_v12, main_v13, main_v14, main_v15]

/-- The sequence and the input weights: what is written. -/
theorem opsX_writes : (opsX (F := F)).Forall fun op => op.writes ⊆ (opsX_dst.map (Proc.devRef (τ := τ) .tc)).toFinset :=
  StableHlo.forall_writes_sub_of_map rfl

/-- The sequence and the input weights: nothing is allocated. -/
theorem opsX_fresh : (opsX (F := F)).Forall fun op => op.fresh = ∅ :=
  StableHlo.forall_fresh_of_map rfl

/-- The sequence and the input weights: every buffer is the TensorCore's. -/
theorem opsX_sub : (opsX (F := F)).Forall fun op => op.bufs ⊆ StableHlo.tcRefs τ sig :=
  ⟨StableHlo.reshape_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nary_bufs_sub .., StableHlo.unary_bufs_sub ..⟩

/-- The recurrent weights packed. -/
def opsH : List (HloOp τ sig (Elt F)) :=
  [StableHlo.unary main_arg3 main_v16 ((transpose S256x1024 [1, 0] · transposes_S1024x256_S256x1024_1_0) : (⟨S1024x256, .f32⟩ : BufTy).Contents (Elt F) → (⟨S256x1024, .f32⟩ : BufTy).Contents (Elt F)),
   StableHlo.unary main_v16 main_v17 ((extractStridedSlice S256x256 ![0, 0] · slices_S256x1024_S256x256_0_0) : (⟨S256x1024, .f32⟩ : BufTy).Contents (Elt F) → (⟨S256x256, .f32⟩ : BufTy).Contents (Elt F)),
   StableHlo.unary main_v16 main_v18 ((extractStridedSlice S256x256 ![0, 256] · slices_S256x1024_S256x256_0_256) : (⟨S256x1024, .f32⟩ : BufTy).Contents (Elt F) → (⟨S256x256, .f32⟩ : BufTy).Contents (Elt F)),
   StableHlo.unary main_v16 main_v19 ((extractStridedSlice S256x256 ![0, 512] · slices_S256x1024_S256x256_0_512) : (⟨S256x1024, .f32⟩ : BufTy).Contents (Elt F) → (⟨S256x256, .f32⟩ : BufTy).Contents (Elt F)),
   StableHlo.unary main_v16 main_v20 ((extractStridedSlice S256x256 ![0, 768] · slices_S256x1024_S256x256_0_768) : (⟨S256x1024, .f32⟩ : BufTy).Contents (Elt F) → (⟨S256x256, .f32⟩ : BufTy).Contents (Elt F)),
   StableHlo.nullary main_cst_2 (constant S_ .f32 0x3F000000#32),
   StableHlo.unary main_cst_2 main_v21 (broadcastInDim S256x256 ![] bcast_S_S256x256 : (⟨S_, .f32⟩ : BufTy).Contents (Elt F) → (⟨S256x256, .f32⟩ : BufTy).Contents (Elt F)),
   StableHlo.binary main_v21 main_v17 main_v22 (mulf : (⟨S256x256, .f32⟩ : BufTy).Contents (Elt F) → (⟨S256x256, .f32⟩ : BufTy).Contents (Elt F) → (⟨S256x256, .f32⟩ : BufTy).Contents (Elt F)),
   StableHlo.nullary main_cst_3 (constant S_ .f32 0x3F000000#32),
   StableHlo.unary main_cst_3 main_v23 (broadcastInDim S256x256 ![] bcast_S_S256x256 : (⟨S_, .f32⟩ : BufTy).Contents (Elt F) → (⟨S256x256, .f32⟩ : BufTy).Contents (Elt F)),
   StableHlo.binary main_v23 main_v18 main_v24 (mulf : (⟨S256x256, .f32⟩ : BufTy).Contents (Elt F) → (⟨S256x256, .f32⟩ : BufTy).Contents (Elt F) → (⟨S256x256, .f32⟩ : BufTy).Contents (Elt F)),
   StableHlo.nullary main_cst_4 (constant S_ .f32 0x3F000000#32),
   StableHlo.unary main_cst_4 main_v25 (broadcastInDim S256x256 ![] bcast_S_S256x256 : (⟨S_, .f32⟩ : BufTy).Contents (Elt F) → (⟨S256x256, .f32⟩ : BufTy).Contents (Elt F)),
   StableHlo.binary main_v25 main_v20 main_v26 (mulf : (⟨S256x256, .f32⟩ : BufTy).Contents (Elt F) → (⟨S256x256, .f32⟩ : BufTy).Contents (Elt F) → (⟨S256x256, .f32⟩ : BufTy).Contents (Elt F)),
   StableHlo.nary ![main_v22, main_v24, main_v26, main_v19] main_v27 (fun u => (concatenate S256x1024 1 [⟨S256x256, (u 0 : (⟨S256x256, .f32⟩ : BufTy).Contents (Elt F))⟩, ⟨S256x256, (u 1 : (⟨S256x256, .f32⟩ : BufTy).Contents (Elt F))⟩, ⟨S256x256, (u 2 : (⟨S256x256, .f32⟩ : BufTy).Contents (Elt F))⟩, ⟨S256x256, (u 3 : (⟨S256x256, .f32⟩ : BufTy).Contents (Elt F))⟩] concatenates_S256x256_S256x256_S256x256_S256x256_S256x1024_d1 : (⟨S256x1024, .f32⟩ : BufTy).Contents (Elt F))),
   StableHlo.unary main_v27 main_v28 ((truncf .bf16 · bitsLt_bf16_f32) : (⟨S256x1024, .f32⟩ : BufTy).Contents (Elt F) → (⟨S256x1024, .bf16⟩ : BufTy).Contents (Elt F))]

/-- What `opsH` writes. -/
def opsH_dst : List (Ref sig .tc) := [main_v16, main_v17, main_v18, main_v19, main_v20, main_cst_2, main_v21, main_v22, main_cst_3, main_v23, main_v24, main_cst_4, main_v25, main_v26, main_v27, main_v28]

/-- The recurrent weights: what is written. -/
theorem opsH_writes : (opsH (F := F)).Forall fun op => op.writes ⊆ (opsH_dst.map (Proc.devRef (τ := τ) .tc)).toFinset :=
  StableHlo.forall_writes_sub_of_map rfl

/-- The recurrent weights: nothing is allocated. -/
theorem opsH_fresh : (opsH (F := F)).Forall fun op => op.fresh = ∅ :=
  StableHlo.forall_fresh_of_map rfl

/-- The recurrent weights: every buffer is the TensorCore's. -/
theorem opsH_sub : (opsH (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nary_bufs_sub .., StableHlo.unary_bufs_sub ..⟩

/-- The biases summed and packed. -/
def opsB : List (HloOp τ sig (Elt F)) :=
  [StableHlo.binary main_arg4 main_arg5 main_v29 (addf : (⟨S1024, .f32⟩ : BufTy).Contents (Elt F) → (⟨S1024, .f32⟩ : BufTy).Contents (Elt F) → (⟨S1024, .f32⟩ : BufTy).Contents (Elt F)),
   StableHlo.unary main_v29 main_v30 ((extractStridedSlice S256 ![0] · slices_S1024_S256_0) : (⟨S1024, .f32⟩ : BufTy).Contents (Elt F) → (⟨S256, .f32⟩ : BufTy).Contents (Elt F)),
   StableHlo.unary main_v29 main_v31 ((extractStridedSlice S256 ![256] · slices_S1024_S256_256) : (⟨S1024, .f32⟩ : BufTy).Contents (Elt F) → (⟨S256, .f32⟩ : BufTy).Contents (Elt F)),
   StableHlo.unary main_v29 main_v32 ((extractStridedSlice S256 ![512] · slices_S1024_S256_512) : (⟨S1024, .f32⟩ : BufTy).Contents (Elt F) → (⟨S256, .f32⟩ : BufTy).Contents (Elt F)),
   StableHlo.unary main_v29 main_v33 ((extractStridedSlice S256 ![768] · slices_S1024_S256_768) : (⟨S1024, .f32⟩ : BufTy).Contents (Elt F) → (⟨S256, .f32⟩ : BufTy).Contents (Elt F)),
   StableHlo.nullary main_cst_5 (constant S_ .f32 0x3F000000#32),
   StableHlo.unary main_cst_5 main_v34 (broadcastInDim S256 ![] bcast_S_S256 : (⟨S_, .f32⟩ : BufTy).Contents (Elt F) → (⟨S256, .f32⟩ : BufTy).Contents (Elt F)),
   StableHlo.binary main_v34 main_v30 main_v35 (mulf : (⟨S256, .f32⟩ : BufTy).Contents (Elt F) → (⟨S256, .f32⟩ : BufTy).Contents (Elt F) → (⟨S256, .f32⟩ : BufTy).Contents (Elt F)),
   StableHlo.nullary main_cst_6 (constant S_ .f32 0x3F000000#32),
   StableHlo.unary main_cst_6 main_v36 (broadcastInDim S256 ![] bcast_S_S256 : (⟨S_, .f32⟩ : BufTy).Contents (Elt F) → (⟨S256, .f32⟩ : BufTy).Contents (Elt F)),
   StableHlo.binary main_v36 main_v31 main_v37 (mulf : (⟨S256, .f32⟩ : BufTy).Contents (Elt F) → (⟨S256, .f32⟩ : BufTy).Contents (Elt F) → (⟨S256, .f32⟩ : BufTy).Contents (Elt F)),
   StableHlo.nullary main_cst_7 (constant S_ .f32 0x3F000000#32),
   StableHlo.unary main_cst_7 main_v38 (broadcastInDim S256 ![] bcast_S_S256 : (⟨S_, .f32⟩ : BufTy).Contents (Elt F) → (⟨S256, .f32⟩ : BufTy).Contents (Elt F)),
   StableHlo.binary main_v38 main_v33 main_v39 (mulf : (⟨S256, .f32⟩ : BufTy).Contents (Elt F) → (⟨S256, .f32⟩ : BufTy).Contents (Elt F) → (⟨S256, .f32⟩ : BufTy).Contents (Elt F)),
   StableHlo.nary ![main_v35, main_v37, main_v39, main_v32] main_v40 (fun u => (concatenate S1024 0 [⟨S256, (u 0 : (⟨S256, .f32⟩ : BufTy).Contents (Elt F))⟩, ⟨S256, (u 1 : (⟨S256, .f32⟩ : BufTy).Contents (Elt F))⟩, ⟨S256, (u 2 : (⟨S256, .f32⟩ : BufTy).Contents (Elt F))⟩, ⟨S256, (u 3 : (⟨S256, .f32⟩ : BufTy).Contents (Elt F))⟩] concatenates_S256_S256_S256_S256_S1024_d0 : (⟨S1024, .f32⟩ : BufTy).Contents (Elt F))),
   StableHlo.unary main_v40 main_v41 (broadcastInDim S1x1024 ![1] bcast_S1024_S1x1024_1 : (⟨S1024, .f32⟩ : BufTy).Contents (Elt F) → (⟨S1x1024, .f32⟩ : BufTy).Contents (Elt F)),
   StableHlo.unary main_v41 main_v42 (broadcastInDim S8x1024 ![0, 1] bcast_S1x1024_S8x1024_0_1 : (⟨S1x1024, .f32⟩ : BufTy).Contents (Elt F) → (⟨S8x1024, .f32⟩ : BufTy).Contents (Elt F))]

/-- What `opsB` writes. -/
def opsB_dst : List (Ref sig .tc) := [main_v29, main_v30, main_v31, main_v32, main_v33, main_cst_5, main_v34, main_v35, main_cst_6, main_v36, main_v37, main_cst_7, main_v38, main_v39, main_v40, main_v41, main_v42]

/-- The gate biases: what is written. -/
theorem opsB_writes : (opsB (F := F)).Forall fun op => op.writes ⊆ (opsB_dst.map (Proc.devRef (τ := τ) .tc)).toFinset :=
  StableHlo.forall_writes_sub_of_map rfl

/-- The gate biases: nothing is allocated. -/
theorem opsB_fresh : (opsB (F := F)).Forall fun op => op.fresh = ∅ :=
  StableHlo.forall_fresh_of_map rfl

/-- The gate biases: every buffer is the TensorCore's. -/
theorem opsB_sub : (opsB (F := F)).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nary_bufs_sub .., StableHlo.unary_bufs_sub .., StableHlo.unary_bufs_sub ..⟩

/-- The first readout layer. -/
def opsL : List (HloOp τ sig (Elt F)) :=
  [StableHlo.unary main_arg6 main_v43 ((transpose S256x256 [1, 0] · transposes_S256x256_S256x256_1_0) : (⟨S256x256, .f32⟩ : BufTy).Contents (Elt F) → (⟨S256x256, .f32⟩ : BufTy).Contents (Elt F)),
   StableHlo.unary main_arg7 main_v44 (broadcastInDim S1x256 ![1] bcast_S256_S1x256_1 : (⟨S256, .f32⟩ : BufTy).Contents (Elt F) → (⟨S1x256, .f32⟩ : BufTy).Contents (Elt F)),
   StableHlo.unary main_v44 main_v45 (broadcastInDim S8x256 ![0, 1] bcast_S1x256_S8x256_0_1 : (⟨S1x256, .f32⟩ : BufTy).Contents (Elt F) → (⟨S8x256, .f32⟩ : BufTy).Contents (Elt F))]

/-- What `opsL` writes. -/
def opsL_dst : List (Ref sig .tc) := [main_v43, main_v44, main_v45]

/-- The hidden layer's operands: what is written. -/
theorem opsL_writes : (opsL (F := F)).Forall fun op => op.writes ⊆ (opsL_dst.map (Proc.devRef (τ := τ) .tc)).toFinset :=
  StableHlo.forall_writes_sub_of_map rfl

/-- The hidden layer's operands: nothing is allocated. -/
theorem opsL_fresh : (opsL (F := F)).Forall fun op => op.fresh = ∅ :=
  StableHlo.forall_fresh_of_map rfl

/-- The hidden layer's operands: every buffer is the TensorCore's. -/
theorem opsL_sub : (opsL (F := F)).Forall fun op => op.bufs ⊆ StableHlo.tcRefs τ sig :=
  ⟨StableHlo.unary_bufs_sub .., StableHlo.unary_bufs_sub .., StableHlo.unary_bufs_sub ..⟩

/-- The second readout layer's paddings. -/
def opsO : List (HloOp τ sig (Elt F)) :=
  [StableHlo.nullary main_cst_8 (constant S_ .f32 0x00000000#32),
   StableHlo.unary main_cst_8 main_v46 (broadcastInDim S256x128 ![] bcast_S_S256x128 : (⟨S_, .f32⟩ : BufTy).Contents (Elt F) → (⟨S256x128, .f32⟩ : BufTy).Contents (Elt F)),
   StableHlo.unary main_arg8 main_v47 ((transpose S256x6 [1, 0] · transposes_S6x256_S256x6_1_0) : (⟨S6x256, .f32⟩ : BufTy).Contents (Elt F) → (⟨S256x6, .f32⟩ : BufTy).Contents (Elt F)),
   StableHlo.nullary main_c (constantI S_ 32 0#32),
   StableHlo.unary main_c main_v48 (broadcastInDim S1 ![] bcast_S_S1 : (⟨S_, .i32⟩ : BufTy).Contents (Elt F) → (⟨S1, .i32⟩ : BufTy).Contents (Elt F))]

/-- What `opsO` writes. -/
def opsO_dst : List (Ref sig .tc) := [main_cst_8, main_v46, main_v47, main_c, main_v48]

/-- The output layer's weights: what is written. -/
theorem opsO_writes : (opsO (F := F)).Forall fun op => op.writes ⊆ (opsO_dst.map (Proc.devRef (τ := τ) .tc)).toFinset :=
  StableHlo.forall_writes_sub_of_map rfl

/-- The output layer's weights: nothing is allocated. -/
theorem opsO_fresh : (opsO (F := F)).Forall fun op => op.fresh = ∅ :=
  StableHlo.forall_fresh_of_map rfl

/-- The output layer's weights: every buffer is the TensorCore's. -/
theorem opsO_sub : (opsO (F := F)).Forall fun op => op.bufs ⊆ StableHlo.tcRefs τ sig :=
  ⟨StableHlo.nullary_bufs_sub .., StableHlo.unary_bufs_sub .., StableHlo.unary_bufs_sub .., StableHlo.nullary_bufs_sub .., StableHlo.unary_bufs_sub ..⟩

/-- The second readout layer padded, and the first step's rows. -/
def opsP : List (HloOp τ sig (Elt F)) :=
  [StableHlo.ternary main_v46 main_v48 main_v47 main_v49 ((fun x i u => Host.scatter scatter_S256x128_S1_S256x6_01_n_1_0 (fun _ b => b) x i u) : (⟨S256x128, .f32⟩ : BufTy).Contents (Elt F) → (⟨S1, .i32⟩ : BufTy).Contents (Elt F) → (⟨S256x6, .f32⟩ : BufTy).Contents (Elt F) → (⟨S256x128, .f32⟩ : BufTy).Contents (Elt F)),
   StableHlo.nullary main_cst_9 (constant S_ .f32 0x00000000#32),
   StableHlo.unary main_cst_9 main_v50 (broadcastInDim S128 ![] bcast_S_S128 : (⟨S_, .f32⟩ : BufTy).Contents (Elt F) → (⟨S128, .f32⟩ : BufTy).Contents (Elt F)),
   StableHlo.nullary main_c_10 (constantI S_ 32 0#32),
   StableHlo.unary main_c_10 main_v51 (broadcastInDim S1 ![] bcast_S_S1 : (⟨S_, .i32⟩ : BufTy).Contents (Elt F) → (⟨S1, .i32⟩ : BufTy).Contents (Elt F)),
   StableHlo.ternary main_v50 main_v51 main_arg9 main_v52 ((fun x i u => Host.scatter scatter_S128_S1_S6_0_n_0_0 (fun _ b => b) x i u) : (⟨S128, .f32⟩ : BufTy).Contents (Elt F) → (⟨S1, .i32⟩ : BufTy).Contents (Elt F) → (⟨S6, .f32⟩ : BufTy).Contents (Elt F) → (⟨S128, .f32⟩ : BufTy).Contents (Elt F)),
   StableHlo.unary main_v52 main_v53 (broadcastInDim S1x128 ![1] bcast_S128_S1x128_1 : (⟨S128, .f32⟩ : BufTy).Contents (Elt F) → (⟨S1x128, .f32⟩ : BufTy).Contents (Elt F)),
   StableHlo.unary main_v53 main_v54 (broadcastInDim S8x128 ![0, 1] bcast_S1x128_S8x128_0_1 : (⟨S1x128, .f32⟩ : BufTy).Contents (Elt F) → (⟨S8x128, .f32⟩ : BufTy).Contents (Elt F)),
   StableHlo.unary main_v2 main_v55 ((extractStridedSlice S1x1024x128 ![0, 0, 0] · slices_S50x1024x128_S1x1024x128_0_0_0) : (⟨S50x1024x128, .f32⟩ : BufTy).Contents (Elt F) → (⟨S1x1024x128, .f32⟩ : BufTy).Contents (Elt F))]

/-- What `opsP` writes. -/
def opsP_dst : List (Ref sig .tc) := [main_v49, main_cst_9, main_v50, main_c_10, main_v51, main_v52, main_v53, main_v54, main_v55]

/-- The output layer's operands: what is written. -/
theorem opsP_writes : (opsP (F := F)).Forall fun op => op.writes ⊆ (opsP_dst.map (Proc.devRef (τ := τ) .tc)).toFinset :=
  StableHlo.forall_writes_sub_of_map rfl

/-- The output layer's operands: nothing is allocated. -/
theorem opsP_fresh : (opsP (F := F)).Forall fun op => op.fresh = ∅ :=
  StableHlo.forall_fresh_of_map rfl

/-- The output layer's operands: every buffer is the TensorCore's. -/
theorem opsP_sub : (opsP (F := F)).Forall fun op => op.bufs ⊆ StableHlo.tcRefs τ sig :=
  ⟨StableHlo.ternary_bufs_sub .., StableHlo.nullary_bufs_sub .., StableHlo.unary_bufs_sub .., StableHlo.nullary_bufs_sub .., StableHlo.unary_bufs_sub .., StableHlo.ternary_bufs_sub .., StableHlo.unary_bufs_sub .., StableHlo.unary_bufs_sub .., StableHlo.unary_bufs_sub ..⟩

/-- The result cut out of the padded one. -/
def opsOut : List (HloOp τ sig (Elt F)) :=
  [StableHlo.unary main_v56 main_v57 ((extractStridedSlice S1024x6 ![0, 0] · slices_S1024x128_S1024x6_0_0) : (⟨S1024x128, .f32⟩ : BufTy).Contents (Elt F) → (⟨S1024x6, .f32⟩ : BufTy).Contents (Elt F))]

/-- What `opsOut` writes. -/
def opsOut_dst : List (Ref sig .tc) := [main_v57]

/-- The result's cut: what is written. -/
theorem opsOut_writes : (opsOut (F := F)).Forall fun op => op.writes ⊆ (opsOut_dst.map (Proc.devRef (τ := τ) .tc)).toFinset :=
  StableHlo.forall_writes_sub_of_map rfl

/-- The result's cut: nothing is allocated. -/
theorem opsOut_fresh : (opsOut (F := F)).Forall fun op => op.fresh = ∅ :=
  StableHlo.forall_fresh_of_map rfl

/-- The result's cut: every buffer is the TensorCore's. -/
theorem opsOut_sub : (opsOut (F := F)).Forall fun op => op.bufs ⊆ StableHlo.tcRefs τ sig :=
  StableHlo.unary_bufs_sub ..

/-! ## What each stretch leaves -/

section Leaves

variable (V : Valuation τ sig (Elt F))

open StableHlo (after)

/-- Those operations leave this in `main_v0`. -/
theorem opsIn_v0 : after opsIn V main_v0 = shapeCast S51200 (V main_arg0) shapeCasts_S50x1024_S51200 := by
  unfold opsIn
  after_results_simp
  rfl

/-- Those operations leave this in `main_v2`. -/
theorem opsX_v2 : after opsX V main_v2 = asSeq (V main_v1) := by
  unfold opsX
  after_results_simp
  rfl

/-- Those operations leave this in `main_v15`. -/
theorem opsX_v15 : after opsX V main_v15 = packX (V main_arg2) := by
  unfold opsX
  after_results_simp
  rfl

/-- Those operations leave this in `main_v28`. -/
theorem opsH_v28 : after opsH V main_v28 = packH (V main_arg3) := by
  unfold opsH
  after_results_simp
  rfl

/-- Those operations leave this in `main_v42`. -/
theorem opsB_v42 : after opsB V main_v42 = packB (V main_arg4) (V main_arg5) := by
  unfold opsB
  after_results_simp
  rfl

/-- Those operations leave this in `main_v43`. -/
theorem opsL_v43 : after opsL V main_v43 = linW (V main_arg6) := by
  unfold opsL
  after_results_simp
  rfl

/-- Those operations leave this in `main_v45`. -/
theorem opsL_v45 : after opsL V main_v45 = linB (V main_arg7) := by
  unfold opsL
  after_results_simp
  rfl

/-- Those operations leave this in `main_v46`. -/
theorem opsO_v46 : after opsO V main_v46 = broadcastInDim S256x128 ![] bcast_S_S256x128 (constant S_ .f32 0x00000000#32) := by
  unfold opsO
  after_results_simp

/-- Those operations leave this in `main_v47`. -/
theorem opsO_v47 : after opsO V main_v47 = transpose S256x6 [1, 0] (V main_arg8) transposes_S6x256_S256x6_1_0 := by
  unfold opsO
  after_results_simp

/-- Those operations leave this in `main_v48`. -/
theorem opsO_v48 : after opsO V main_v48 = broadcastInDim S1 ![] bcast_S_S1 (constantI S_ 32 0#32) := by
  unfold opsO
  after_results_simp

/-- Those operations leave this in `main_v54`. -/
theorem opsP_v54 : after opsP V main_v54 = outB (V main_arg9) := by
  unfold opsP
  after_results_simp
  rfl

/-- Those operations leave this in `main_v55`. -/
theorem opsP_v55 : after opsP V main_v55 = firstRows (V main_v2) := by
  unfold opsP
  after_results_simp
  rfl

/-- Those operations leave this in `main_v49`. -/
theorem opsP_v49 : after opsP V main_v49 = Host.scatter scatter_S256x128_S1_S256x6_01_n_1_0 (fun _ b => b) (V main_v46 : (⟨S256x128, .f32⟩ : BufTy).Contents (Elt F)) (V main_v48 : (⟨S1, .i32⟩ : BufTy).Contents (Elt F)) (V main_v47 : (⟨S256x6, .f32⟩ : BufTy).Contents (Elt F)) := by
  unfold opsP
  after_results_simp
  rfl

/-- Those operations leave this in `main_v57`. -/
theorem opsOut_v57 : after opsOut V main_v57 = extractStridedSlice S1024x6 ![0, 0] (V main_v56) slices_S1024x128_S1024x6_0_0 := by
  unfold opsOut
  after_results_simp

/-! ## All of it between the launches -/

/-- The operations between the two launches. -/
abbrev opsMid : List (HloOp τ sig (Elt F)) := opsX ++ (opsH ++ (opsB ++ (opsL ++ (opsO ++ opsP))))

/-- What they write. -/
def opsMid_dst : List (Ref sig .tc) := opsX_dst ++ (opsH_dst ++ (opsB_dst ++ (opsL_dst ++ (opsO_dst ++ opsP_dst))))

/-- All of it: what is written. -/
theorem opsMid_writes : (opsMid (F := F)).Forall fun op => op.writes ⊆ (opsMid_dst.map (Proc.devRef (τ := τ) .tc)).toFinset :=
  StableHlo.forall_writes_sub_of_map rfl

/-- All of it: nothing is allocated. -/
theorem opsMid_fresh : (opsMid (F := F)).Forall fun op => op.fresh = ∅ :=
  StableHlo.forall_fresh_of_map rfl

/-- All of it: every buffer is the TensorCore's. -/
theorem opsMid_sub : (opsMid (F := F)).Forall fun op => op.bufs ⊆ StableHlo.tcRefs τ sig := by
  simp only [opsMid, List.forall_append]
  exact ⟨opsX_sub, opsH_sub, opsB_sub, opsL_sub, opsO_sub, opsP_sub⟩

/-- Operations one list after another. -/
theorem after_append (l₁ l₂ : List (HloOp τ sig (Elt F))) (V : Valuation τ sig (Elt F)) : after (l₁ ++ l₂) V = after l₂ (after l₁ V) := by
  induction l₁ generalizing V with
  | nil => rfl
  | cons op l₁ ih => exact ih _

/-- What the operations between the launches leave, stretch by stretch. -/
theorem after_opsMid : after opsMid V = after opsP (after opsO (after opsL (after opsB (after opsH (after opsX V))))) := by
  simp only [opsMid, after_append]

/-- Before the region `main_v2` holds this, of the contents after the gather. -/
theorem mid_v2 : after opsMid V main_v2 = asSeq (V main_v1) := by
  rw [after_opsMid, StableHlo.after_of_writes_sub opsP _ opsP_writes (by decide), StableHlo.after_of_writes_sub opsO _ opsO_writes (by decide),
    StableHlo.after_of_writes_sub opsL _ opsL_writes (by decide), StableHlo.after_of_writes_sub opsB _ opsB_writes (by decide),
    StableHlo.after_of_writes_sub opsH _ opsH_writes (by decide), opsX_v2]

/-- Before the region `main_v15` holds this, of the contents after the gather. -/
theorem mid_v15 : after opsMid V main_v15 = packX (V main_arg2) := by
  rw [after_opsMid, StableHlo.after_of_writes_sub opsP _ opsP_writes (by decide), StableHlo.after_of_writes_sub opsO _ opsO_writes (by decide),
    StableHlo.after_of_writes_sub opsL _ opsL_writes (by decide), StableHlo.after_of_writes_sub opsB _ opsB_writes (by decide),
    StableHlo.after_of_writes_sub opsH _ opsH_writes (by decide), opsX_v15]

/-- Before the region `main_v28` holds this, of the contents after the gather. -/
theorem mid_v28 : after opsMid V main_v28 = packH (V main_arg3) := by
  rw [after_opsMid, StableHlo.after_of_writes_sub opsP _ opsP_writes (by decide), StableHlo.after_of_writes_sub opsO _ opsO_writes (by decide),
    StableHlo.after_of_writes_sub opsL _ opsL_writes (by decide), StableHlo.after_of_writes_sub opsB _ opsB_writes (by decide),
    opsH_v28, StableHlo.after_of_writes_sub opsX _ opsX_writes (by decide)]

/-- Before the region `main_v42` holds this, of the contents after the gather. -/
theorem mid_v42 : after opsMid V main_v42 = packB (V main_arg4) (V main_arg5) := by
  rw [after_opsMid, StableHlo.after_of_writes_sub opsP _ opsP_writes (by decide), StableHlo.after_of_writes_sub opsO _ opsO_writes (by decide),
    StableHlo.after_of_writes_sub opsL _ opsL_writes (by decide), opsB_v42]
  simp only [StableHlo.after_of_writes_sub opsH _ opsH_writes (show main_arg4 ∉ opsH_dst by decide),
    StableHlo.after_of_writes_sub opsX _ opsX_writes (show main_arg4 ∉ opsX_dst by decide),
    StableHlo.after_of_writes_sub opsH _ opsH_writes (show main_arg5 ∉ opsH_dst by decide),
    StableHlo.after_of_writes_sub opsX _ opsX_writes (show main_arg5 ∉ opsX_dst by decide)]

/-- What no operation before the readout layers writes is as it was. -/
theorem before_readout (r : Ref sig .tc) (hx : r ∉ opsX_dst) (hh : r ∉ opsH_dst) (hb : r ∉ opsB_dst) :
    after opsB (after opsH (after opsX V)) r = V r := by
  rw [StableHlo.after_of_writes_sub opsB _ opsB_writes hb, StableHlo.after_of_writes_sub opsH _ opsH_writes hh,
    StableHlo.after_of_writes_sub opsX _ opsX_writes hx]

/-- Before the region `main_v43` holds this, of the contents after the gather. -/
theorem mid_v43 : after opsMid V main_v43 = linW (V main_arg6) := by
  rw [after_opsMid, StableHlo.after_of_writes_sub opsP _ opsP_writes (by decide), StableHlo.after_of_writes_sub opsO _ opsO_writes (by decide),
    opsL_v43, before_readout V _ (by decide) (by decide) (by decide)]

/-- Before the region `main_v45` holds this, of the contents after the gather. -/
theorem mid_v45 : after opsMid V main_v45 = linB (V main_arg7) := by
  rw [after_opsMid, StableHlo.after_of_writes_sub opsP _ opsP_writes (by decide), StableHlo.after_of_writes_sub opsO _ opsO_writes (by decide),
    opsL_v45, before_readout V _ (by decide) (by decide) (by decide)]

/-- Before the region `main_v49` holds this, of the contents after the gather. -/
theorem mid_v49 : after opsMid V main_v49 = outW (V main_arg8) := by
  rw [after_opsMid, opsP_v49, opsO_v46, opsO_v48, opsO_v47, StableHlo.after_of_writes_sub opsL _ opsL_writes (by decide),
    before_readout V _ (by decide) (by decide) (by decide)]
  rfl

/-- Before the region `main_v54` holds this, of the contents after the gather. -/
theorem mid_v54 : after opsMid V main_v54 = outB (V main_arg9) := by
  rw [after_opsMid, opsP_v54, StableHlo.after_of_writes_sub opsO _ opsO_writes (by decide),
    StableHlo.after_of_writes_sub opsL _ opsL_writes (by decide), before_readout V _ (by decide) (by decide) (by decide)]

/-- Before the region `main_v55` holds this, of the contents after the gather. -/
theorem mid_v55 : after opsMid V main_v55 = firstRows (asSeq (V main_v1)) := by
  rw [after_opsMid, opsP_v55, StableHlo.after_of_writes_sub opsO _ opsO_writes (by decide),
    StableHlo.after_of_writes_sub opsL _ opsL_writes (by decide), StableHlo.after_of_writes_sub opsB _ opsB_writes (by decide),
    StableHlo.after_of_writes_sub opsH _ opsH_writes (by decide), opsX_v2]

/-! ## The program as its stretches -/

set_option maxRecDepth 16384 in
set_option maxHeartbeats 4000000 in
/-- The host program: the indices flattened, the SparseCore launch, the packing, the TensorCore region, the result. -/
theorem main_eq (d : Dev nD) : main (F := F) d = (StableHlo.seq opsIn >>= fun _ => SparseCore.Cfg.run sc d 0 >>= fun _ => StableHlo.seq opsMid >>= fun _ =>
    Prog.lift (.customCall (SparseCore.inner (Pipeline.entry 0)) ()) >>= fun _ => StableHlo.seq opsOut) := by
  rfl

end Leaves

end Cert.Proof.Run

end
-- ==== Proof.Chunk.lean ====
/-
  One chunk of the SparseCore gather: eighty rows of the table, named by eighty words of the tile's index list, are
  fetched into one of the tile's two row buffers and copied to their place in the output.
-/
module

public import proofs.«01_k».proof.Proof.Setup
public import Idealize.ShloMosaic.Lib.SparseCore.FromWhole

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The buffers -/

/-- The table, the indices and the gathered rows, as locations of device `d`. -/
abbrev eLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-- The table as a tile sees it, -/
abbrev eV : Memref sig .scVector .hbm S100000x128 .f32 := Memref.whole main_arg1_scv
/-- the indices, -/
abbrev iV : Memref sig .scVector .hbm S51200 .i32 := Memref.whole main_v0_scv
/-- the gathered rows, -/
abbrev oV : Memref sig .scVector .hbm S51200x128 .f32 := Memref.whole main_v1_scv
/-- the tile's list, -/
abbrev sV : Memref sig .scVector .vmem S1600 .i32 := Memref.whole cc0_scratch0
/-- its even chunks' buffer -/
abbrev aV : Memref sig .scVector .vmem S80x128 .f32 := Memref.whole cc0_scratch1
/-- and its odd chunks'. -/
abbrev bV : Memref sig .scVector .vmem S80x128 .f32 := Memref.whole cc0_scratch2

/-- Entry `n` of a list of 51200 words. -/
abbrev at1 (n : Fin 51200) : S51200.Idx := fun | 0 => n

/-- The gathered rows: row `j` is row `ib j` of the table `eb` (the remainder by the table's height only keeps the row a
    row: every index is in range). -/
def gath (eb : S100000x128.Idx → Elt F .f32) (ib : S51200.Idx → Elt F .i32) : S51200x128.Idx → Elt F .f32 := fun j =>
  eb fun
    | 0 => ⟨(ib (at1 (j 0))).toNat % 100000, Nat.mod_lt _ (by decide)⟩
    | 1 => j 1

section Tile

variable (d : Dev nD) (L : grid0.Coords)

/-- The SparseCore of grid point `L`, -/
abbrev cV (L : grid0.Coords) : Fin τ.nSC := (L 0).castLE hcore0
/-- and its tile. -/
abbrev jV (L : grid0.Coords) : Fin τ.nSub := (L 1).castLE hsub0
/-- The tile's thread. -/
abbrev VT (d : Dev nD) (L : grid0.Coords) : Thread nD τ := V d (cV L) (jV L)

/-- The whole table, the tile's words of the indices, chunk `r`'s words of its list and chunk `r`'s rows of the output, as the
    body spells them. -/
abbrev eAll : Memref sig .scVector .hbm S100000x128 .f32 := eV.slice (Rect.unit (s := S100000x128) ![0, 0] S100000x128.size inb_S100000x128_S100000x128_0_0) (fun _ => rfl)
abbrev iSl (L : grid0.Coords) : Memref sig .scVector .hbm S1600 .i32 := iV.slice (Rect.unit (s := S51200) (k0_off1 L) S1600.size (k0_off1_inb L)) (fun _ => rfl)
abbrev lst (n : ℕ) (h : ∀ a, (![n] : Fin 1 → ℕ) a + S80.size a ≤ S1600.size a) : Memref sig .scVector .vmem S80 .i32 :=
  sV.slice (Rect.unit (s := S1600) ![n] S80.size h) (fun _ => rfl)
abbrev oCh (L : grid0.Coords) (r : Fin 20) : Memref sig .scVector .hbm S80x128 .f32 :=
  oV.slice (Rect.unit (s := S51200x128) (k0_off2 L (BitVec.ofNat 32 (80 * r.val))) S80x128.size (k0_off2_inb L r)) (fun _ => rfl)

/-- The tile's list, once fetched: its sixteen hundred words of the indices. -/
abbrev lstOf (ib : Buf (Elt F) (iLoc d)) : Buf (Elt F) ((VT d L).loc cc0_scratch0) := (iSl L).view.read (Elt F) ib

/-- Chunk `r`'s words lie in the list. -/
theorem lst_ok (r : Fin 20) : ∀ a, (![80 * r.val] : Fin 1 → ℕ) a + S80.size a ≤ S1600.size a := by
  intro a; have := r.isLt
  match a with
  | 0 => show 80 * r.val + 80 ≤ 1600; omega

/-- Word `n + x` of the tile's words, among the indices. -/
theorem row_lt (r : Fin 20) (x : Fin 80) : 3200 * (L 1).val + 1600 * (L 0).val + 80 * r.val + x.val < 51200 := by
  have h0 : (L 0).val < 2 := (L 0).isLt
  have h1 : (L 1).val < 16 := (L 1).isLt
  have := r.isLt
  have := x.isLt
  omega

/-- Where row `x` of chunk `r` lies among the indices and in the output. -/
abbrev rowAt (r : Fin 20) (x : Fin 80) : Fin 51200 := ⟨3200 * (L 1).val + 1600 * (L 0).val + 80 * r.val + x.val, row_lt L r x⟩

/-- Word `x` of chunk `r`'s list is the index of the chunk's row `x`. -/
theorem lst_read (ib : Buf (Elt F) (iLoc d)) (r : Fin 20) (x : S80.Idx) :
    (lst (80 * r.val) (lst_ok r)).view.read (Elt F) (lstOf d L ib) x = ib (at1 (rowAt L r (x 0))) := by
  refine (View.read_apply _ _).trans ((cast_eq _ _).trans ((View.read_apply _ _).trans ((cast_eq _ _).trans ?_)))
  refine congrArg ib (funext fun a => Fin.ext ?_)
  match a with
  | 0 =>
    simp only [Memref.view_slice, View.emb_slice, Function.Embedding.trans_apply]
    refine (Rect.emb_apply _ _ _).trans ?_
    refine (congrArg (· + 1 * (80 * r.val + 1 * (x 0).val)) (congrFun (k0_off1_eq L) 0)).trans ?_
    show 3200 * (L 1).val + 1600 * (L 0).val + 1 * (80 * r.val + 1 * (x 0).val)
      = 3200 * (L 1).val + 1600 * (L 0).val + 80 * r.val + (x 0).val
    omega

/-- The rows chunk `r` fetches. -/
def rowsOf (eb : S100000x128.Idx → Elt F .f32) (ib : S51200.Idx → Elt F .i32) (r : Fin 20) : S80x128.Idx → Elt F .f32 := fun x =>
  gath eb ib fun
    | 0 => rowAt L r (x 0)
    | 1 => x 1

/-- What an indirect copy of chunk `r` brings is the chunk's rows. -/
theorem rowsOf_gather (eb : Buf (Elt F) (eLoc d)) (ib : Buf (Elt F) (iLoc d)) (hib : ∀ j, (ib j).toNat < 100000) (r : Fin 20)
    (hn : S80.numel = S80x128.size (gathers_S100000x128_S80x128).axis')
    (hin : ∀ x, ((lst (80 * r.val) (lst_ok r)).view.read (Elt F) (lstOf d L ib) x).toNat < S100000x128.size (gathers_S100000x128_S80x128).axis) :
    SparseCore.gatherPayload gathers_S100000x128_S80x128 (eAll.view.read (Elt F) eb)
      (SparseCore.rows ((lst (80 * r.val) (lst_ok r)).view.read (Elt F) (lstOf d L ib)) hn hin) = rowsOf L eb ib r := by
  funext x
  unfold SparseCore.gatherPayload rowsOf gath
  refine (View.read_apply _ _).trans ((cast_eq _ _).trans ?_)
  refine congrArg eb (funext fun a => Fin.ext ?_)
  simp only [Memref.view_slice, View.emb_slice, Function.Embedding.trans_apply]
  refine (Rect.emb_apply _ _ _).trans ?_
  match a with
  | 0 =>
    refine (congrArg (fun v : ℕ => 0 + 1 * v) (congrArg Fin.val (Shape.Gathers.idx_axis gathers_S100000x128_S80x128 _ x))).trans ?_
    refine (congrArg (fun w : BitVec 32 => 0 + 1 * w.toNat) (lst_read d L ib r _)).trans ?_
    have e : (S80.rowMajor.symm ((x (gathers_S100000x128_S80x128).axis').cast hn.symm) 0).val = (x 0).val := by
      rw [← Shape.rowMajor_val_one, Equiv.apply_symm_apply]; rfl
    have e' : rowAt L r (S80.rowMajor.symm ((x (gathers_S100000x128_S80x128).axis').cast hn.symm) 0) = rowAt L r (x 0) :=
      Fin.ext (congrArg (3200 * (L 1).val + 1600 * (L 0).val + 80 * r.val + ·) e)
    refine (congrArg (fun k => 0 + 1 * (ib (at1 k)).toNat) e').trans ?_
    show 0 + 1 * (ib (at1 (rowAt L r (x 0)))).toNat = (ib (at1 (rowAt L r (x 0)))).toNat % 100000
    rw [Nat.mod_eq_of_lt (hib _)]; omega
  | 1 =>
    refine (congrArg (fun v : ℕ => 0 + 1 * v) (Shape.Gathers.idx_of_ne gathers_S100000x128_S80x128 _ x 1 (by decide))).trans ?_
    show 0 + 1 * (x 1).val = (x 1).val
    omega

/-- Chunk `r`'s rows, written to their place, are the gathered rows there. -/
theorem chunk_write (eb : Buf (Elt F) (eLoc d)) (ib : Buf (Elt F) (iLoc d)) (r : Fin 20) (f : Buf (Elt F) (oLoc d)) :
    ∀ j ∈ (oCh L r).view.set, (oCh L r).view.write (Elt F) f (rowsOf L eb ib r) Finset.univ j = gath eb ib j := by
  intro j hj
  obtain ⟨y, -, rfl⟩ := Finset.mem_map.mp hj
  rw [View.write_emb_of_mem _ _ (Finset.mem_univ y)]
  refine (cast_eq _ _).trans ?_
  unfold rowsOf
  refine congrArg (gath eb ib) (funext fun a => Fin.ext ?_)
  simp only [Memref.view_slice, View.emb_slice, Function.Embedding.trans_apply]
  refine Eq.trans ?_ (Rect.emb_apply _ _ _).symm
  match a with
  | 0 =>
    refine Eq.trans ?_ (congrArg (· + 1 * (y 0).val) (congrFun (k0_off2_eq L r) 0).symm)
    show 3200 * (L 1).val + 1600 * (L 0).val + 80 * r.val + (y 0).val = 3200 * (L 1).val + 1600 * (L 0).val + 80 * r.val + 1 * (y 0).val
    omega
  | 1 =>
    refine Eq.trans ?_ (congrArg (· + 1 * (y 1).val) (congrFun (k0_off2_eq L r) 1).symm)
    show (y 1).val = 0 + 1 * (y 1).val
    omega

/-! ## The two steps of a channel -/

variable (B : Memref sig .scVector .vmem S80x128 .f32) (sem : DmaSem sig) (qx ql : PosShare TreeShare)
variable (eb : Buf (Elt F) (eLoc d)) (ib : Buf (Elt F) (iLoc d))

/-- What a channel reads: its shares of the table and of the tile's list. -/
def Read : sProp 𝕄 :=
  iprop((eAll.view.loc (VT d L) ↦{qx} eb) ∗ (sV.view.loc (VT d L) ↦{ql} lstOf d L ib))

/-- A channel with no gather in flight. -/
def Idle : sProp 𝕄 :=
  iprop((∃ f, B.view.loc (VT d L) ↦{fullShare} f) ∗ semVal (VT d L, SemLoc.dma sem) 0 ∗ Read d L qx ql eb ib)

/-- A channel with chunk `r`'s gather in flight. -/
def Busy (r : Fin 20) : sProp 𝕄 :=
  Transfers.Flight countersEmb (VT d L) (.dma sem) (default : HIx 1) B.view.dmaCredit
    iprop((∃ f, ⌜B.view.read (Elt F) f = rowsOf L eb ib r⌝ ∗ B.view.loc (VT d L) ↦{fullShare} f) ∗ Read d L qx ql eb ib)

/-- What the tile owes, its waits being those at the start and its own. -/
def Owes (O : CellTallies nD τ sig (HIx 1)) (W : Waits sig (HIx 1)) : sProp 𝕄 :=
  iprop(∃ W', ⌜∀ p ∈ W', p ∈ W ∨ p.2 = none⌝ ∗ owes (VT d L) O W')

/-- What the tile owes, with the pairs that it recorded since forgotten. -/
theorem mk_owes (O : CellTallies nD τ sig (HIx 1)) (W W' : Waits sig (HIx 1)) (h : ∀ p ∈ W', p ∈ W ∨ p.2 = none) :
    (owes (VT d L) O W' : sProp 𝕄) ⊢ Owes d L O W := by
  unfold Owes
  iintro H
  iexists W'; isplitr
  · ipureintro; exact h
  iexact H

/-- A channel is idle when it holds its buffer, its semaphore at zero and its shares of the table and of the list. -/
theorem mk_idle (f : Buf (Elt F) (B.view.loc (VT d L))) :
    iprop((B.view.loc (VT d L) ↦{fullShare} f) ∗ semVal (VT d L, SemLoc.dma sem) 0
        ∗ (eAll.view.loc (VT d L) ↦{qx} eb) ∗ (sV.view.loc (VT d L) ↦{ql} lstOf d L ib))
      ⊢ Idle d L B sem qx ql eb ib := by
  unfold Idle Read
  iintro ⟨HB, Hs, He, Hl⟩
  isplitl [HB]; · iexists f; iexact HB
  isplitl [Hs]; · iexact Hs
  isplitl [He]; · iexact He
  iexact Hl

variable {α : Type} {Q : α → sProp (MT nD τ sig (HIx 1) (Elt F) ℕ UU ℕ)}

/-- Issuing chunk `r`'s gather. -/
theorem issue (hib : ∀ j, (ib j).toNat < 100000) (r : Fin 20)
    (hcr : ∀ s' : Shape, sig.dmaCredit .scVector (Kind.scVector.table .vmem) B.view.buf s' .f32 = s'.numel * (EltTy.f32).bits)
    {k : PUnit → Prog (TpuEff nD τ sig (Elt F) Λ₀ (VT d L).2) α} :
    Idle d L B sem qx ql eb ib
      ⊢ iprop((Busy d L B sem qx ql eb ib r -∗ wp frame (wpE (defs₀ (F := F)) 𝒱₀ (VT d L) none) Set.univ (k ⟨⟩) Q)
          -∗ wp frame (wpE (defs₀ (F := F)) 𝒱₀ (VT d L) none) Set.univ
              (SparseCore.enqueueIndirectGather rfl eAll B gathers_S100000x128_S80x128 (lst (80 * r.val) (lst_ok r)) rfl sem
                (View.wordExact_bits rfl) rfl (Or.inl rfl) >>= k) Q) := by
  have hin : ∀ x, ((lst (80 * r.val) (lst_ok r)).view.read (Elt F) (lstOf d L ib) x).toNat < S100000x128.size (gathers_S100000x128_S80x128).axis := by
    intro x; rw [lst_read]; exact hib _
  unfold Idle Read
  iintro ⟨⟨%f, HB⟩, Hs, He, Hl⟩ Hk
  iapply (SparseCore.wp_gatherFromWhole countersEmb 𝒱₀ (VT d L) none (default : HIx 1) B.view.dmaCredit
      (SparseCore.sum_rowCredit_eq_dmaCredit B _ hcr) (by decide) hin) $$ [He HB Hl Hs]
  · isplitl [He]; · iexact He
    isplitl [HB]; · iexact HB
    isplitl [Hl]; · iexact Hl
    iexact Hs
  iintro Hf
  iapply Hk
  unfold Busy
  refine Transfers.Flight_mono countersEmb (VT d L) ?_
  unfold Read
  iintro ⟨HB, He, Hl⟩
  isplitl [HB]
  · iexists _; isplitr; swap; · iexact HB
    ipureintro
    rw [View.read_write_univ]
    exact rowsOf_gather d L eb ib hib r _ _
  isplitl [He]; · iexact He
  iexact Hl

/-- Awaiting chunk `r`'s gather, then copying its rows to their place and awaiting that. -/
theorem finish (O : CellTallies nD τ sig (HIx 1)) (W : Waits sig (HIx 1)) (r : Fin 20) (semR : DmaSem sig) (f₀ : Buf (Elt F) (oLoc d))
    (hB : B.view.WordExact)
    {k : PUnit → Prog (TpuEff nD τ sig (Elt F) Λ₀ (VT d L).2) α} :
    iprop(Transfers.MayWaits (VT d L) (default : HIx 1) O ∗ Busy d L B sem qx ql eb ib r ∗ Owes d L O W
        ∗ semVal (VT d L, SemLoc.dma semR) 0 ∗ ((oCh L r).view.loc (VT d L) ↦[(oCh L r).view.set]{fullShare} f₀))
      ⊢ iprop((Transfers.MayWaits (VT d L) (default : HIx 1) O ∗ Idle d L B sem qx ql eb ib ∗ Owes d L O W
          ∗ semVal (VT d L, SemLoc.dma semR) 0
          ∗ ((oCh L r).view.loc (VT d L) ↦[(oCh L r).view.set]{fullShare} gath eb ib)
              -∗ wp frame (wpE (defs₀ (F := F)) 𝒱₀ (VT d L) none) Set.univ (k ⟨⟩) Q)
          -∗ wp frame (wpE (defs₀ (F := F)) 𝒱₀ (VT d L) none) Set.univ
              (SparseCore.waitIndirectGather sem eAll B (View.wordExact_bits rfl) hB >>= fun _ =>
                Prog.lift (.enqueueDma B (.here (oCh L r)) (.dma semR) hB (View.wordExact_bits rfl) ⟨Or.inl rfl, trivial⟩) >>= fun _ =>
                Prog.lift (.waitDma2 semR B (oCh L r) hB (View.wordExact_bits rfl)) >>= k) Q) := by
  unfold Busy Owes
  iintro ⟨#Hmw, HF, ⟨%W', %hW, HO⟩, Hr, Ho⟩ Hk
  iapply (Transfers.wp_waitLocalO countersEmb 𝒱₀ (VT d L) none (default : HIx 1) (rfl : B.view.dmaCredit = _)) $$ [HF HO]
  · isplitl [HF]; · iexact HF
    isplitl [HO]; · iexact HO
    iapply (Transfers.MayWaits.elim (SemLoc.dma sem)) $$ Hmw
  iintro ⟨⟨⟨%f, %hf, HB⟩, HR⟩, Hs, HO⟩
  iapply (Transfers.wp_dmaFromWhole countersEmb 𝒱₀ (VT d L) none (default : HIx 1) (oCh L r).view.dmaCredit rfl
    (View.dmaCredit_pos _ (by decide)) (Finset.Subset.refl _)) $$ [HB Ho Hr]
  · isplitl [HB]; · iexact HB
    isplitl [Ho]; · iexact Ho
    iexact Hr
  iintro HF
  iapply (Transfers.wp_waitLocalO countersEmb 𝒱₀ (VT d L) none (default : HIx 1) (rfl : (oCh L r).view.dmaCredit = _)) $$ [HF HO]
  · isplitl [HF]; · iexact HF
    isplitl [HO]; · iexact HO
    iapply (Transfers.MayWaits.elim (SemLoc.dma semR)) $$ Hmw
  iintro ⟨⟨Ho, HB⟩, Hr, HO⟩
  iapply Hk
  isplitr; · iexact Hmw
  isplitl [HB Hs HR]
  · unfold Idle
    isplitl [HB]; · iexists _; iexact HB
    isplitl [Hs]; · iexact Hs
    iexact HR
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW p hp
  isplitl [Hr]; · iexact Hr
  iapply (Entails.of_eq (pointsTo_congr (show ∀ j ∈ (oCh L r).view.set, _ = gath eb ib j from fun j hj => by
    refine Eq.trans ?_ (chunk_write d L eb ib r f₀ j hj)
    rw [← hf])))
  iexact Ho

end Tile

end Cert.Proof.Run

end
-- ==== Proof.Gather.lean ====
/-
  The SparseCore gather, one tile: the tile fetches its sixteen hundred words of the indices, and the rows they name go
  out, chunk by chunk, through two buffers in turn, to the tile's rows of the output.
-/
module

public import proofs.«01_k».proof.Proof.Chunk
public import Idealize.ShloMosaic.Lib.ShareLeaves

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords)

/-- The semaphores of the twenty copies out. -/
def outSem : Fin 20 → DmaSem sig := ![cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem, cc0_scoped13.sem, cc0_scoped14.sem, cc0_scoped15.sem, cc0_scoped16.sem, cc0_scoped17.sem, cc0_scoped18.sem, cc0_scoped19.sem, cc0_scoped20.sem]

/-- The tile's semaphores: the two channels', the one of the fetch of its words, and those of the copies out. -/
def semOf : Fin 3 ⊕ Fin 20 → DmaSem sig := Sum.elim ![cc0_scratch3.sem, cc0_scratch4.sem, cc0_scoped0.sem] outSem

/-- They are different semaphores, -/
theorem semOf_inj : Function.Injective semOf := by decide

/-- each of them a tile's own, -/
theorem semOf_scoped : ∀ k, (SemLoc.dma (semOf k) : SemLoc sig).isScoped .scVector = true := by decide

/-- The cell of semaphore `k` of the tile. -/
def cellOfSem (k : Fin 3 ⊕ Fin 20) : GSem nD τ sig := (VT d L, .dma (semOf k))

/-- and different cells. -/
theorem cellOfSem_inj : Function.Injective (cellOfSem d L) := fun a b h => semOf_inj (SemLoc.dma.inj (Prod.mk.inj h).2)

/-- The tile's scoped semaphores are these and the rest. -/
theorem ownSems0_tile :
    (ownSems0 (VT d L) : sProp 𝕄)
      = iprop(((semVal (VT d L, .dma cc0_scratch3.sem) 0 ∗ semVal (VT d L, .dma cc0_scratch4.sem) 0 ∗ semVal (VT d L, .dma cc0_scoped0.sem) 0)
          ∗ bigSep Finset.univ fun r : Fin 20 => semVal (VT d L, .dma (outSem r)) 0)
          ∗ bigSep (ownCells (VT d L) \ Finset.univ.map ⟨cellOfSem d L, cellOfSem_inj d L⟩) fun g => semVal g 0) := by
  unfold ownSems0
  rw [SparseCore.bigSep_sdiff_split' (s := ownCells (VT d L)) (t := Finset.univ.map ⟨cellOfSem d L, cellOfSem_inj d L⟩) fun g hg => by
    obtain ⟨k, -, rfl⟩ := Finset.mem_map.mp hg
    exact mem_ownCells.mpr ⟨rfl, semOf_scoped k⟩, SparseCore.bigSep_map, BI.bigSep_univ_sum,
    bigSep_univ_eq_bigSepL ([0, 1, 2] : List (Fin 3)) (by decide) (by decide)]
  rfl

/-- The tile's three scratch buffers are among its own: they are them, at some contents, and the rest. -/
theorem ownBufs_tile :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hne : ∀ a b : Ref sig .scVector, a ≠ b → (Proc.scVector (cV L) (jV L)).devRef a ≠ (Proc.scVector (cV L) (jV L)).devRef b :=
    fun a b h e => h (Proc.devRef_injective _ e)
  have hmem : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h =>
    SparseCore.Cfg.mem_ownRefs_of_owner h
  unfold ownBufs
  refine (SparseCore.bigSep_erase' (hmem cc0_scratch0 rfl)).trans ?_
  rw [SparseCore.bigSep_erase' (Finset.mem_erase.mpr ⟨hne cc0_scratch1 cc0_scratch0 (by decide), hmem cc0_scratch1 rfl⟩),
    SparseCore.bigSep_erase' (Finset.mem_erase.mpr ⟨hne cc0_scratch2 cc0_scratch1 (by decide),
      Finset.mem_erase.mpr ⟨hne cc0_scratch2 cc0_scratch0 (by decide), hmem cc0_scratch2 rfl⟩⟩)]

/-- A share is its two halves. -/
theorem halves {ℓ : Loc nD τ sig} (q : PosShare TreeShare) (f : Buf (Elt F) ℓ) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

/-- What the tile is handed and hands back: a share of the table, a share of the indices, and its twenty chunks of the output. -/
def tileHas (q : PosShare TreeShare) (eb : Buf (Elt F) (eLoc d)) (ib : Buf (Elt F) (iLoc d)) (ob : Buf (Elt F) (oLoc d)) : sProp 𝕄 :=
  iprop((eAll.view.loc (VT d L) ↦{q} eb) ∗ ((iSl L).view.loc (VT d L) ↦{q} ib)
    ∗ bigSep Finset.univ fun r : Fin 20 => (oCh L r).view.loc (VT d L) ↦[(oCh L r).view.set]{fullShare} ob)

/-- The tile when `n` chunks are in their place: what it owes, its chunks of the output, and the copies' semaphores. -/
def At (eb : Buf (Elt F) (eLoc d)) (ib : Buf (Elt F) (iLoc d)) (ob : Buf (Elt F) (oLoc d))
    (O : CellTallies nD τ sig (HIx 1)) (W : Waits sig (HIx 1)) (n : ℕ) : sProp 𝕄 :=
  iprop(Transfers.MayWaits (VT d L) (default : HIx 1) O ∗ Owes d L O W
    ∗ (bigSep Finset.univ fun r : Fin 20 => (oCh L r).view.loc (VT d L) ↦[(oCh L r).view.set]{fullShare} if r.val < n then gath eb ib else ob)
    ∗ bigSep Finset.univ fun r : Fin 20 => semVal (VT d L, .dma (outSem r)) 0)

/-- Awaiting chunk `r`'s gather and putting its rows in their place. -/
theorem turn (B : Memref sig .scVector .vmem S80x128 .f32) (sem : DmaSem sig) (qx ql : PosShare TreeShare)
    (eb : Buf (Elt F) (eLoc d)) (ib : Buf (Elt F) (iLoc d)) (ob : Buf (Elt F) (oLoc d))
    (O : CellTallies nD τ sig (HIx 1)) (W : Waits sig (HIx 1)) (r : Fin 20) (n n' : ℕ) (hn : r.val = n) (hn' : n' = n + 1) (hB : B.view.WordExact)
    {α : Type} {Q : α → sProp (MT nD τ sig (HIx 1) (Elt F) ℕ UU ℕ)} {k : PUnit → Prog (TpuEff nD τ sig (Elt F) Λ₀ (VT d L).2) α} :
    iprop(Busy d L B sem qx ql eb ib r ∗ At d L eb ib ob O W n)
      ⊢ iprop((Idle d L B sem qx ql eb ib ∗ At d L eb ib ob O W n'
              -∗ wp frame (wpE (defs₀ (F := F)) 𝒱₀ (VT d L) none) Set.univ (k ⟨⟩) Q)
          -∗ wp frame (wpE (defs₀ (F := F)) 𝒱₀ (VT d L) none) Set.univ
              (SparseCore.waitIndirectGather sem eAll B (View.wordExact_bits rfl) hB >>= fun _ =>
                Prog.lift (.enqueueDma B (.here (oCh L r)) (.dma (outSem r)) hB (View.wordExact_bits rfl) ⟨Or.inl rfl, trivial⟩) >>= fun _ =>
                Prog.lift (.waitDma2 (outSem r) B (oCh L r) hB (View.wordExact_bits rfl)) >>= k) Q) := by
  subst hn'; subst hn
  have hcs : bigSep (Finset.univ.erase r) (fun s : Fin 20 => ((oCh L s).view.loc (VT d L) ↦[(oCh L s).view.set]{fullShare} if s.val < r.val + 1 then gath eb ib else ob : sProp 𝕄))
      = bigSep (Finset.univ.erase r) (fun s : Fin 20 => ((oCh L s).view.loc (VT d L) ↦[(oCh L s).view.set]{fullShare} if s.val < r.val then gath eb ib else ob : sProp 𝕄)) :=
    bigSep_congr fun s hs => by
      have hne : s.val ≠ r.val := fun h => (Finset.mem_erase.mp hs).1 (Fin.ext h)
      simp only [show (s.val < r.val + 1) = (s.val < r.val) from propext (by omega)]
  unfold At
  rw [SparseCore.bigSep_erase' (Finset.mem_univ r) (Φ := fun s : Fin 20 => (oCh L s).view.loc (VT d L) ↦[(oCh L s).view.set]{fullShare} if s.val < r.val then gath eb ib else ob),
    SparseCore.bigSep_erase' (Finset.mem_univ r) (Φ := fun r : Fin 20 => semVal (VT d L, .dma (outSem r)) 0),
    SparseCore.bigSep_erase' (Finset.mem_univ r) (Φ := fun s : Fin 20 => (oCh L s).view.loc (VT d L) ↦[(oCh L s).view.set]{fullShare} if s.val < r.val + 1 then gath eb ib else ob),
    hcs, if_neg (lt_irrefl _), if_pos (Nat.lt_succ_self _)]
  iintro ⟨HB, Hmw, HO, ⟨Hc, Hcs⟩, Hs, Hss⟩ Hk
  iapply (finish d L B sem qx ql eb ib O W r (outSem r) ob hB) $$ [HB Hmw HO Hc Hs]
  · isplitl [Hmw]; · iexact Hmw
    isplitl [HB]; · iexact HB
    isplitl [HO]; · iexact HO
    isplitl [Hs]; · iexact Hs
    iexact Hc
  iintro ⟨Hmw, HB, HO, Hs, Hc⟩
  iapply Hk
  isplitl [HB]; · iexact HB
  isplitl [Hmw]; · iexact Hmw
  isplitl [HO]; · iexact HO
  isplitl [Hc Hcs]; · isplitl [Hc] <;> iassumption
  isplitl [Hs] <;> iassumption

set_option maxHeartbeats 4000000 in
set_option maxRecDepth 65536 in
/-- The task on a tile: handed its shares and its rows of the output, it hands them back with the rows gathered. -/
theorem tile_body (hF : (K (F := F)).Facts) (q : PosShare TreeShare) (eb : Buf (Elt F) (eLoc d)) (ib : Buf (Elt F) (iLoc d)) (ob : Buf (Elt F) (oLoc d))
    (hib : ∀ j, (ib j).toNat < 100000)
    (O : CellTallies nD τ sig (HIx 1)) (W : Waits sig (HIx 1)) (hO : ∀ g, O g none = 0) :
    iprop(levAts (K (F := F)).L (K (F := F)).lev ∗ emp ∗ tileHas d L q eb ib ob
        ∗ scopedBufs (VT d L) ∗ scopedSems0 (VT d L) ∗ owes (VT d L) O W)
      ⊢ wp frame (wpE (defs₀ (F := F)) 𝒱₀ (VT d L) none) Set.univ
          (cc0_gather_kernel L eV (Memref.isWhole_whole _) iV (Memref.isWhole_whole _) oV (Memref.isWhole_whole _)
            sV (Memref.isWhole_whole _) aV (Memref.isWhole_whole _) bV (Memref.isWhole_whole _) cc0_scratch3 cc0_scratch4
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20)
          fun _ => iprop(tileHas d L q eb ib (gath eb ib) ∗ scopedBufs (VT d L) ∗ scopedSems0 (VT d L)
            ∗ ∃ W', ⌜∀ p ∈ W', p ∈ W ∨ p.2 = none⌝ ∗ owes (VT d L) O W') := by
  simp only [cc0_gather_kernel_eq_skeleton]; unfold cc0_gather_kernel_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  rw [(K (F := F)).scopedBufs_V hF d (cV L) (jV L), SparseCore.Cfg.scopedSems0_V (Val := Elt F) d (cV L) (jV L), ownSems0_tile, ownBufs_tile]
  unfold tileHas
  rw [halves]
  simp only [bind_assoc, pure_bind]
  iintro ⟨#Hlv, -, ⟨⟨He, He'⟩, Hi, Ho⟩, ⟨⟨%fs, Hl⟩, ⟨%fa, Ha⟩, ⟨%fb, Hb⟩, Hbufs⟩, ⟨⟨⟨HsA, HsB, HR0⟩, HR⟩, Hsems⟩, HO⟩
  ihave Hmw := (show levAts (K (F := F)).L (K (F := F)).lev ⊢ Transfers.MayWaits (VT d L) (default : HIx 1) O from
    (K (F := F)).mayWaits_none (thr := VT d L) hO) $$ Hlv
  iapply (Transfers.wp_dmaFromWhole countersEmb 𝒱₀ (VT d L) none (default : HIx 1) sV.view.dmaCredit rfl
    (View.dmaCredit_pos _ (by decide)) (Finset.subset_univ _)) $$ [Hi Hl HR0]
  · isplitl [Hi]; · iexact Hi
    isplitl [Hl]; · iexact Hl
    iexact HR0
  iintro HF
  iapply (Transfers.wp_waitLocalO countersEmb 𝒱₀ (VT d L) none (default : HIx 1) (rfl : sV.view.dmaCredit = _)) $$ [HF HO]
  · isplitl [HF]; · iexact HF
    isplitl [HO]; · iexact HO
    iapply (Transfers.MayWaits.elim (SemLoc.dma cc0_scoped0.sem)) $$ Hmw
  iintro ⟨⟨Hl, Hi⟩, HR0, HO⟩
  ihave Hl := (Entails.of_eq (show _ = (sV.view.loc (VT d L) ↦{fullShare} lstOf d L ib : sProp 𝕄) from
    congrArg _ (View.write_whole_univ _ _ _))) $$ Hl
  ihave Hl := (Entails.of_eq (halves (F := F) _ _)) $$ Hl
  icases Hl with ⟨Hl, Hl'⟩
  ihave HO := (mk_owes (F := F) d L O W _ (fun p hp => by
    rcases Finset.mem_insert.mp hp with hp | hp; · exact .inr (hp ▸ rfl)
    exact .inl hp)) $$ HO
  ihave HA := (mk_idle (F := F) d L aV cc0_scratch3.sem q.left fullShare.left eb ib fa) $$ [Ha HsA He Hl]
  · isplitl [Ha]; · iexact Ha
    isplitl [HsA]; · iexact HsA
    isplitl [He]; · iexact He
    iexact Hl
  ihave HB := (mk_idle (F := F) d L bV cc0_scratch4.sem q.right fullShare.right eb ib fb) $$ [Hb HsB He' Hl']
  · isplitl [Hb]; · iexact Hb
    isplitl [HsB]; · iexact HsB
    isplitl [He']; · iexact He'
    iexact Hl'
  ihave HT := (show iprop(_ ∗ _ ∗ _ ∗ _) ⊢ At d L eb ib ob O W 0 from .rfl) $$ [Hmw HO Ho HR]
  · isplitr; · iexact Hmw
    isplitl [HO]; · iexact HO
    isplitl [Ho]; · iexact Ho
    iexact HR
  iapply (issue d L aV cc0_scratch3.sem q.left fullShare.left eb ib hib 0 (fun _ => rfl)) $$ HA; iintro HA
  iapply (issue d L bV cc0_scratch4.sem q.right fullShare.right eb ib hib 1 (fun _ => rfl)) $$ HB; iintro HB
  iapply (turn d L aV cc0_scratch3.sem q.left fullShare.left eb ib ob O W 0 0 1 rfl rfl (Memref.isWhole_whole _).wordExact) $$ [HA HT]; · isplitl [HA] <;> iassumption
  iintro ⟨HA, HT⟩
  iapply (issue d L aV cc0_scratch3.sem q.left fullShare.left eb ib hib 2 (fun _ => rfl)) $$ HA; iintro HA
  iapply (turn d L bV cc0_scratch4.sem q.right fullShare.right eb ib ob O W 1 1 2 rfl rfl (Memref.isWhole_whole _).wordExact) $$ [HB HT]; · isplitl [HB] <;> iassumption
  iintro ⟨HB, HT⟩
  iapply (issue d L bV cc0_scratch4.sem q.right fullShare.right eb ib hib 3 (fun _ => rfl)) $$ HB; iintro HB
  iapply (turn d L aV cc0_scratch3.sem q.left fullShare.left eb ib ob O W 2 2 3 rfl rfl (Memref.isWhole_whole _).wordExact) $$ [HA HT]; · isplitl [HA] <;> iassumption
  iintro ⟨HA, HT⟩
  iapply (issue d L aV cc0_scratch3.sem q.left fullShare.left eb ib hib 4 (fun _ => rfl)) $$ HA; iintro HA
  iapply (turn d L bV cc0_scratch4.sem q.right fullShare.right eb ib ob O W 3 3 4 rfl rfl (Memref.isWhole_whole _).wordExact) $$ [HB HT]; · isplitl [HB] <;> iassumption
  iintro ⟨HB, HT⟩
  iapply (issue d L bV cc0_scratch4.sem q.right fullShare.right eb ib hib 5 (fun _ => rfl)) $$ HB; iintro HB
  iapply (turn d L aV cc0_scratch3.sem q.left fullShare.left eb ib ob O W 4 4 5 rfl rfl (Memref.isWhole_whole _).wordExact) $$ [HA HT]; · isplitl [HA] <;> iassumption
  iintro ⟨HA, HT⟩
  iapply (issue d L aV cc0_scratch3.sem q.left fullShare.left eb ib hib 6 (fun _ => rfl)) $$ HA; iintro HA
  iapply (turn d L bV cc0_scratch4.sem q.right fullShare.right eb ib ob O W 5 5 6 rfl rfl (Memref.isWhole_whole _).wordExact) $$ [HB HT]; · isplitl [HB] <;> iassumption
  iintro ⟨HB, HT⟩
  iapply (issue d L bV cc0_scratch4.sem q.right fullShare.right eb ib hib 7 (fun _ => rfl)) $$ HB; iintro HB
  iapply (turn d L aV cc0_scratch3.sem q.left fullShare.left eb ib ob O W 6 6 7 rfl rfl (Memref.isWhole_whole _).wordExact) $$ [HA HT]; · isplitl [HA] <;> iassumption
  iintro ⟨HA, HT⟩
  iapply (issue d L aV cc0_scratch3.sem q.left fullShare.left eb ib hib 8 (fun _ => rfl)) $$ HA; iintro HA
  iapply (turn d L bV cc0_scratch4.sem q.right fullShare.right eb ib ob O W 7 7 8 rfl rfl (Memref.isWhole_whole _).wordExact) $$ [HB HT]; · isplitl [HB] <;> iassumption
  iintro ⟨HB, HT⟩
  iapply (issue d L bV cc0_scratch4.sem q.right fullShare.right eb ib hib 9 (fun _ => rfl)) $$ HB; iintro HB
  iapply (turn d L aV cc0_scratch3.sem q.left fullShare.left eb ib ob O W 8 8 9 rfl rfl (Memref.isWhole_whole _).wordExact) $$ [HA HT]; · isplitl [HA] <;> iassumption
  iintro ⟨HA, HT⟩
  iapply (issue d L aV cc0_scratch3.sem q.left fullShare.left eb ib hib 10 (fun _ => rfl)) $$ HA; iintro HA
  iapply (turn d L bV cc0_scratch4.sem q.right fullShare.right eb ib ob O W 9 9 10 rfl rfl (Memref.isWhole_whole _).wordExact) $$ [HB HT]; · isplitl [HB] <;> iassumption
  iintro ⟨HB, HT⟩
  iapply (issue d L bV cc0_scratch4.sem q.right fullShare.right eb ib hib 11 (fun _ => rfl)) $$ HB; iintro HB
  iapply (turn d L aV cc0_scratch3.sem q.left fullShare.left eb ib ob O W 10 10 11 rfl rfl (Memref.isWhole_whole _).wordExact) $$ [HA HT]; · isplitl [HA] <;> iassumption
  iintro ⟨HA, HT⟩
  iapply (issue d L aV cc0_scratch3.sem q.left fullShare.left eb ib hib 12 (fun _ => rfl)) $$ HA; iintro HA
  iapply (turn d L bV cc0_scratch4.sem q.right fullShare.right eb ib ob O W 11 11 12 rfl rfl (Memref.isWhole_whole _).wordExact) $$ [HB HT]; · isplitl [HB] <;> iassumption
  iintro ⟨HB, HT⟩
  iapply (issue d L bV cc0_scratch4.sem q.right fullShare.right eb ib hib 13 (fun _ => rfl)) $$ HB; iintro HB
  iapply (turn d L aV cc0_scratch3.sem q.left fullShare.left eb ib ob O W 12 12 13 rfl rfl (Memref.isWhole_whole _).wordExact) $$ [HA HT]; · isplitl [HA] <;> iassumption
  iintro ⟨HA, HT⟩
  iapply (issue d L aV cc0_scratch3.sem q.left fullShare.left eb ib hib 14 (fun _ => rfl)) $$ HA; iintro HA
  iapply (turn d L bV cc0_scratch4.sem q.right fullShare.right eb ib ob O W 13 13 14 rfl rfl (Memref.isWhole_whole _).wordExact) $$ [HB HT]; · isplitl [HB] <;> iassumption
  iintro ⟨HB, HT⟩
  iapply (issue d L bV cc0_scratch4.sem q.right fullShare.right eb ib hib 15 (fun _ => rfl)) $$ HB; iintro HB
  iapply (turn d L aV cc0_scratch3.sem q.left fullShare.left eb ib ob O W 14 14 15 rfl rfl (Memref.isWhole_whole _).wordExact) $$ [HA HT]; · isplitl [HA] <;> iassumption
  iintro ⟨HA, HT⟩
  iapply (issue d L aV cc0_scratch3.sem q.left fullShare.left eb ib hib 16 (fun _ => rfl)) $$ HA; iintro HA
  iapply (turn d L bV cc0_scratch4.sem q.right fullShare.right eb ib ob O W 15 15 16 rfl rfl (Memref.isWhole_whole _).wordExact) $$ [HB HT]; · isplitl [HB] <;> iassumption
  iintro ⟨HB, HT⟩
  iapply (issue d L bV cc0_scratch4.sem q.right fullShare.right eb ib hib 17 (fun _ => rfl)) $$ HB; iintro HB
  iapply (turn d L aV cc0_scratch3.sem q.left fullShare.left eb ib ob O W 16 16 17 rfl rfl (Memref.isWhole_whole _).wordExact) $$ [HA HT]; · isplitl [HA] <;> iassumption
  iintro ⟨HA, HT⟩
  iapply (issue d L aV cc0_scratch3.sem q.left fullShare.left eb ib hib 18 (fun _ => rfl)) $$ HA; iintro HA
  iapply (turn d L bV cc0_scratch4.sem q.right fullShare.right eb ib ob O W 17 17 18 rfl rfl (Memref.isWhole_whole _).wordExact) $$ [HB HT]; · isplitl [HB] <;> iassumption
  iintro ⟨HB, HT⟩
  iapply (issue d L bV cc0_scratch4.sem q.right fullShare.right eb ib hib 19 (fun _ => rfl)) $$ HB; iintro HB
  iapply (turn d L aV cc0_scratch3.sem q.left fullShare.left eb ib ob O W 18 18 19 rfl rfl (Memref.isWhole_whole _).wordExact) $$ [HA HT]; · isplitl [HA] <;> iassumption
  iintro ⟨HA, HT⟩
  iapply (turn d L bV cc0_scratch4.sem q.right fullShare.right eb ib ob O W 19 19 20 rfl rfl (Memref.isWhole_whole _).wordExact) $$ [HB HT]; · isplitl [HB] <;> iassumption
  iintro ⟨HB, HT⟩
  iapply (le_wp_ret frame)
  unfold At Idle Read
  icases HT with ⟨-, HO, Ho, HR⟩
  icases HA with ⟨Ha, HsA, He, Hl⟩
  icases HB with ⟨Hb, HsB, He', Hl'⟩
  isplitl [He He' Hi Ho]
  · isplitl [He He']; · isplitl [He] <;> iassumption
    isplitl [Hi]; · iexact Hi
    iexact Ho
  isplitl [Hl Hl' Ha Hb Hbufs]
  · isplitl [Hl Hl']
    · iexists _; iapply (Entails.of_eq (halves (F := F) fullShare (lstOf d L ib)).symm)
      isplitl [Hl] <;> iassumption
    isplitl [Ha]; · iexact Ha
    isplitl [Hb]; · iexact Hb
    iexact Hbufs
  isplitl [HsA HsB HR0 HR Hsems]
  · isplitl [HsA HsB HR0 HR]
    · isplitl [HsA HsB HR0]
      · isplitl [HsA]; · iexact HsA
        isplitl [HsB]; · iexact HsB
        iexact HR0
      iexact HR
    iexact Hsems
  unfold Owes
  iexact HO

end Tile

end Cert.Proof.Run

end
-- ==== Proof.Deal.lean ====
/-
  The SparseCore call's payload: the table, the indices and the output's buffer are dealt to the 32 tiles — a share of the
  table and of the indices each, and the twenty chunks of 80 rows that the tile writes — and put back together.
-/
module

public import proofs.«01_k».proof.Proof.Gather
public import Idealize.ShloMosaic.Lib.ShareLeaves

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 1) (Elt F) ℕ UU ℕ

/-! ## The output's chunks -/

/-- Tile `i` of SparseCore `c`, as the grid's coordinates. -/
def tileAt (c : Fin 2) (i : Fin 16) : grid0.Coords :=
  fun | 0 => c | 1 => i | ⟨_ + 2, h⟩ => absurd h (Nat.not_lt.2 (Nat.le_add_left _ _))

/-- A chunk of a tile: the tile's SparseCore, the tile and the chunk. -/
abbrev Piece := Fin 2 × Fin 16 × Fin 20

/-- The elements of the output that a chunk holds. -/
def chunkSet (p : Piece) : Finset S51200x128.Idx := (oCh (tileAt p.1 p.2.1) p.2.2).view.set

/-- They are those of eighty consecutive rows. -/
theorem mem_chunk (p : Piece) (x : S51200x128.Idx) :
    x ∈ chunkSet p ↔ 3200 * p.2.1.val + 1600 * p.1.val + 80 * p.2.2.val ≤ (x 0).val
      ∧ (x 0).val < 3200 * p.2.1.val + 1600 * p.1.val + 80 * p.2.2.val + 80 := by
  obtain ⟨c, i, r⟩ := p
  have e : chunkSet (c, i, r) = (Rect.unit (s := S51200x128) (k0_off2 (tileAt c i) (BitVec.ofNat 32 (80 * r.val))) S80x128.size (k0_off2_inb _ r)).set :=
    View.set_slice_whole _ _
  rw [e, Rect.mem_set_unit, k0_off2_eq]
  have h1 : (x 1).val < 128 := (x 1).isLt
  constructor
  · intro h; exact h 0
  · intro h a
    fin_cases a
    · exact h
    · exact ⟨Nat.zero_le _, by show (x 1).val < 0 + 128; omega⟩

/-- Two chunks of rows have no row in common. -/
theorem chunk_disjoint : ∀ p ∈ (Finset.univ : Finset Piece), ∀ p' ∈ (Finset.univ : Finset Piece), p ≠ p' →
    Disjoint (chunkSet p) (chunkSet p') := by
  rintro ⟨c, i, r⟩ - ⟨c', i', r'⟩ - hne
  rw [Finset.disjoint_left]
  intro x hx hx'
  rw [mem_chunk] at hx hx'
  apply hne
  have hc := c.isLt; have hc' := c'.isLt; have hi := i.isLt; have hi' := i'.isLt; have hr := r.isLt; have hr' := r'.isLt
  simp only at hx hx'
  ext <;> simp only <;> omega

/-- Every row is in a chunk. -/
theorem chunk_cover : (Finset.univ : Finset Piece).biUnion chunkSet = Finset.univ := by
  ext x
  simp only [Finset.mem_biUnion, Finset.mem_univ, true_and, iff_true]
  have hx : (x 0).val < 51200 := (x 0).isLt
  refine ⟨(⟨(x 0).val / 1600 % 2, by omega⟩, ⟨(x 0).val / 3200, by omega⟩, ⟨(x 0).val % 1600 / 80, by omega⟩), ?_⟩
  rw [mem_chunk]
  simp only
  omega

/-! ## The deal -/

/-- The tile's share of the table and of the indices. -/
def shareAt (c : Fin 2) (i : Fin 16) : PosShare TreeShare := leaf 5 fullShare ((finProdFinEquiv : Fin 2 × Fin 16 ≃ Fin 32) (c, i))

/-- A buffer held whole is held share by share, one for each tile. -/
theorem deal_shares {ℓ : Loc nD τ sig} (f : Buf (Elt F) ℓ) :
    (ℓ ↦{fullShare} f : sProp 𝕄) = bigSep Finset.univ fun c : Fin 2 => bigSep Finset.univ fun i : Fin 16 => ℓ ↦{shareAt c i} f := by
  refine (pointsTo_leaves Finset.univ f 5 fullShare).trans ?_
  rw [bigSep_univ_equiv (finProdFinEquiv : Fin 2 × Fin 16 ≃ Fin 32), bigSep_univ_prod]
  rfl

variable (d : Dev nD)

/-- The output held whole is held chunk by chunk. -/
theorem deal_chunks (f : Buf (Elt F) (oLoc d)) :
    (oLoc d ↦{fullShare} f : sProp 𝕄) = bigSep Finset.univ fun c : Fin 2 => bigSep Finset.univ fun i : Fin 16 =>
      bigSep Finset.univ fun r : Fin 20 => oLoc d ↦[chunkSet (c, i, r)]{fullShare} f := by
  rw [show (oLoc d ↦{fullShare} f : sProp 𝕄) = oLoc d ↦[(Finset.univ : Finset Piece).biUnion chunkSet]{fullShare} f from by rw [chunk_cover]]
  rw [pointsTo_biUnion Finset.univ (ℓ := oLoc d) chunkSet chunk_disjoint, bigSep_univ_prod]
  exact bigSep_congr fun c _ => bigSep_univ_prod _

/-- The three buffers whole are what the 32 tiles have of them. -/
theorem deal (eb : Buf (Elt F) (eLoc d)) (ib : Buf (Elt F) (iLoc d)) (ob : Buf (Elt F) (oLoc d)) :
    (iprop((eLoc d ↦{fullShare} eb) ∗ (iLoc d ↦{fullShare} ib) ∗ oLoc d ↦{fullShare} ob) : sProp 𝕄)
      = bigSep Finset.univ fun c : Fin 2 => bigSep Finset.univ fun i : Fin 16 => tileHas d (tileAt c i) (shareAt c i) eb ib ob := by
  rw [deal_shares eb, deal_shares ib, deal_chunks d ob, ← bigSep_sep', ← bigSep_sep']
  refine bigSep_congr fun c _ => ?_
  rw [← bigSep_sep', ← bigSep_sep']
  rfl

/-! ## The payload -/

variable (eb : (d : Dev nD) → Buf (Elt F) (eLoc d)) (ib : (d : Dev nD) → Buf (Elt F) (iLoc d)) (ob : (d : Dev nD) → Buf (Elt F) (oLoc d))

/-- What a tile is given, and what it brings back: the output's chunks at what is gathered. -/
abbrev given (d : Dev nD) (c : Fin 2) (i : Fin 16) : sProp 𝕄 := tileHas d (tileAt c i) (shareAt c i) (eb d) (ib d) (ob d)
/-- What a tile is given, as a piece of the launch. -/
abbrev brought (d : Dev nD) (c : Fin 2) (i : Fin 16) : sProp 𝕄 := tileHas d (tileAt c i) (shareAt c i) (eb d) (ib d) (gath (eb d) (ib d))

instance given_storable (d : Dev nD) (c : Fin 2) (i : Fin 16) (o : Buf (Elt F) (oLoc d)) :
    BI.Storable (upEmb : UEmb _ 𝕄) (tileHas d (tileAt c i) (shareAt c i) (eb d) (ib d) o) := by
  unfold tileHas; infer_instance

/-- The call's payload: each SparseCore takes what its tiles are given and brings back what they bring back. -/
def P : (K (F := F)).Pay (nD := nD) (Val := Elt F) (Name := ℕ) (U := UU) where
  st := fun q d c => match q with | 0 => bigSep Finset.univ fun i : Fin 16 => given eb ib ob d c i
  dn := fun q d c => match q with | 0 => bigSep Finset.univ fun i : Fin 16 => brought eb ib d c i
  go := fun q d c i => match q with | 0 => given eb ib ob d c i
  td := fun q d c i => match q with | 0 => brought eb ib d c i
  x := fun _ _ => iprop(emp)

instance P_storable : (P eb ib ob).IsStorable where
  st q d c := match q with
    | 0 => (inferInstance : BI.Storable (upEmb : UEmb _ 𝕄) (bigSep Finset.univ fun i : Fin 16 => given eb ib ob d c i))
  dn q d c := match q with
    | 0 => (inferInstance : BI.Storable (upEmb : UEmb _ 𝕄) (bigSep Finset.univ fun i : Fin 16 => brought eb ib d c i))
  go q d c i := match q with
    | 0 => (inferInstance : BI.Storable (upEmb : UEmb _ 𝕄) (given eb ib ob d c i))
  td q d c i := match q with
    | 0 => (inferInstance : BI.Storable (upEmb : UEmb _ 𝕄) (brought eb ib d c i))

/-- A SparseCore's part is its tiles' parts. -/
theorem vecSplit : (K (F := F)).VecSplit' (P eb ib ob) 0 := by
  intro d c
  show (bigSep Finset.univ fun i : Fin 16 => given eb ib ob d c i) ⊢ |={Set.univ}=> iprop(
      (bigSep Finset.univ fun i : Fin 16 => given eb ib ob d c i)
      ∗ ((bigSep Finset.univ fun i : Fin 16 => brought eb ib d c i) -∗ bigSep Finset.univ fun i : Fin 16 => brought eb ib d c i))
  iintro H; imodintro
  isplitl [H]; · iexact H
  iintro H; iexact H

/-! ## A tile's task -/

/-- A tile's task is the gather's body at that tile. -/
theorem defs₀_vector (c : Fin τ.nSC) (s : Fin τ.nSub) :
    defs₀ (F := F) (.scVector c s) 0 ()
      = SparseCore.onTile hcore0 hsub0 (fun c s => cc0_gather_kernel (tileAt c s) eV (Memref.isWhole_whole _) iV (Memref.isWhole_whole _) oV (Memref.isWhole_whole _)
            sV (Memref.isWhole_whole _) aV (Memref.isWhole_whole _) bV (Memref.isWhole_whole _) cc0_scratch3 cc0_scratch4
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20) ⟨⟩ c s := rfl

/-- The waits a task records are at no stage of the handshakes, so they are among those allowed. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task runs from what it is given to what it brings back. -/
theorem tileObl (hib : ∀ d j, (ib d j).toNat < 100000) : (K (F := F)).TileObl (D (F := F)) 𝒱 (P eb ib ob) v₀ 0 := by
  intro d c i O W hO _ _
  simp only [show (P eb ib ob).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileAt ⟨_, hci.1⟩ ⟨_, hci.2⟩) facts (shareAt ⟨_, hci.1⟩ ⟨_, hci.2⟩) (eb d) (ib d) (ob d) (hib d) O W hO).trans
    (wp_mono frame _ _ fun _ => waits_weaken)

end Cert.Proof.Run

end
-- ==== Proof.Body.lean ====
/-
  The TensorCore body as a function of what its buffers hold: one point of the grid is one LSTM step (the first point also
  clears the state and projects the first row block, the last one also stores the readout).
-/
module

public import proofs.«01_k».proof.Proof.Setup

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Loads and stores of owned memrefs -/

section Access

variable {Λ : Labels} {df : Defs nD τ sig (Elt F) Λ} (𝒲 : Variants) {c : Thread nD τ} (bd : Option 𝒲.V) {α : Type}
  {Q : α → sProp (MT nD τ sig (HIx 1) (Elt F) ℕ UU ℕ)} {sp : CoreSpace} {s : Shape} {e : EltTy}

/-- A rectangle at the origin places each index at itself. -/
theorem emb_origin {off : Fin s.rank → ℕ} {h : ∀ a, off a + s.size a ≤ s.size a} (h0 : ∀ a, off a = 0) (x : s.Idx) :
    (Rect.unit (s := s) off s.size h).emb x = x := by
  funext a; apply Fin.ext
  change off a + 1 * (x a).val = (x a).val
  rw [h0 a]; omega

/-- A load through a rectangle of an owned memref reads what is owned there. -/
theorem owns_load {m : Memref sig c.2.kind sp s e} {r : Rect s} {hl : m.view.LoadsAt r.toLoadRect} {q : PosShare TreeShare}
    {X : s.Idx → Elt F e} {k : (r.shape.Idx → Elt F e) → Prog (TpuEff nD τ sig (Elt F) Λ c.2) α} :
    (owns c m q X : sProp (MT nD τ sig (HIx 1) (Elt F) ℕ UU ℕ))
      ⊢ iprop((owns c m q X -∗ wp frame (wpE df 𝒲 c bd) Set.univ (k fun x => X (r.emb x)) Q)
          -∗ wp frame (wpE df 𝒲 c bd) Set.univ (.op (.load m r.toLoadRect hl) k) Q) := by
  iintro H Hk
  unfold owns
  icases H with ⟨%f, %hf, H⟩
  iapply (wp_load_rect (defs := df) 𝒲 c bd Set.univ (m := m) (r := r) (hl := hl) (k := k) (f := f) (View.set_slice_subset (v := m.view) r)) $$ H
  iintro H
  subst hf
  iapply Hk
  iexists f
  isplitr; · ipureintro; rfl
  iexact H

/-- A load of all of an owned memref reads what it holds. -/
theorem owns_load_all {m : Memref sig c.2.kind sp s e} {off : Fin s.rank → ℕ} {h : ∀ a, off a + s.size a ≤ s.size a} (h0 : ∀ a, off a = 0)
    {hl : m.view.LoadsAt (Rect.unit (s := s) off s.size h).toLoadRect} {q : PosShare TreeShare}
    {X : s.Idx → Elt F e} {k : (s.Idx → Elt F e) → Prog (TpuEff nD τ sig (Elt F) Λ c.2) α} :
    (owns c m q X : sProp (MT nD τ sig (HIx 1) (Elt F) ℕ UU ℕ))
      ⊢ iprop((owns c m q X -∗ wp frame (wpE df 𝒲 c bd) Set.univ (k X) Q)
          -∗ wp frame (wpE df 𝒲 c bd) Set.univ (.op (.load m (Rect.unit (s := s) off s.size h).toLoadRect hl) k) Q) := by
  have e : (fun x => X ((Rect.unit (s := s) off s.size h).emb x)) = X := funext fun x => congrArg X (emb_origin h0 x)
  have H := owns_load (df := df) 𝒲 (c := c) bd (Q := Q) (m := m) (r := Rect.unit (s := s) off s.size h) (hl := hl) (q := q) (X := X) (k := k)
  rw [e] at H
  exact H

/-- A store over all of an owned memref leaves it at what is stored. -/
theorem owns_store_all {m : Memref sig c.2.kind sp s e} {off : Fin s.rank → ℕ} {h : ∀ a, off a + s.size a ≤ s.size a} (h0 : ∀ a, off a = 0)
    {w : s.Idx → Elt F e} {hx : (m.access (Rect.unit (s := s) off s.size h)).Stores Finset.univ}
    {hm : (Finset.univ : Finset (Rect.unit (s := s) off s.size h).shape.Idx) = Finset.univ ∨ ∀ a, (Rect.unit (s := s) off s.size h).stride a = 1}
    {X : s.Idx → Elt F e} {k : PUnit → Prog (TpuEff nD τ sig (Elt F) Λ c.2) α} :
    (owns c m fullShare X : sProp (MT nD τ sig (HIx 1) (Elt F) ℕ UU ℕ))
      ⊢ iprop((owns c m fullShare w -∗ wp frame (wpE df 𝒲 c bd) Set.univ (k ⟨⟩) Q)
          -∗ wp frame (wpE df 𝒲 c bd) Set.univ (.op (.store m (Rect.unit (s := s) off s.size h) w Finset.univ hx hm) k) Q) := by
  iintro H Hk
  unfold owns
  icases H with ⟨%f, %hf, H⟩
  iapply (wp_store (defs := df) 𝒲 c bd Set.univ (m := m) (r := Rect.unit (s := s) off s.size h) (w := w) (hx := hx) (hm := hm) (k := k) (f := f)
    (View.set_slice_subset (v := m.view) (Rect.unit (s := s) off s.size h))) $$ H
  iintro H
  iapply Hk
  iexists _
  isplitr
  · ipureintro
    funext x
    have hw := congrFun (View.read_write_univ (v := m.access (Rect.unit (s := s) off s.size h)) f w) x
    have hr : (m.access (Rect.unit (s := s) off s.size h)).read (Elt F) ((m.access (Rect.unit (s := s) off s.size h)).write (Elt F) f w Finset.univ) x
        = m.view.read (Elt F) ((m.access (Rect.unit (s := s) off s.size h)).write (Elt F) f w Finset.univ) ((Rect.unit (s := s) off s.size h).emb x) := rfl
    rw [hr, emb_origin h0] at hw
    exact hw
  iexact H

end Access

/-! ## What a point computes -/

/-- What a point carries to the next: the hidden state, the cell state and the projected input of the next step. -/
structure St (F : FTy → Type) where
  h : Vec F S1024x256 .f32
  c : Vec F S1024x256 .f32
  x : Vec F S1024x1024 .f32

/-- The first row of eight. -/
abbrev row8 {n : ℕ} {e : EltTy} (b : Vec F ⟨2, ![8, n]⟩ e) : Vec F ⟨2, ![1, n]⟩ e := fun j => b fun
  | 0 => ⟨0, Nat.succ_pos 7⟩
  | 1 => j 1

/-- The state before the first step: cleared, with the first row block projected. -/
abbrev St.start (x1 : Vec F S1x1024x128 .f32) (wx : Vec F S128x1024 .bf16) : St F := ⟨k1_pay4, k1_pay5, k1_pay6 x1 wx⟩

/-- One step, from the row block of the next step and the weights. -/
def St.step (x0 : Vec F S1x1024x128 .f32) (wx : Vec F S128x1024 .bf16) (wh : Vec F S256x1024 .bf16) (b : Vec F S8x1024 .f32) (st : St F) : St F :=
  ⟨k1_pay1 (k1_pay10 st.x st.h wh (row8 b) st.c), k1_pay11 st.x st.h wh (row8 b) st.c, k1_pay2 x0 wx⟩

/-- The readout of the hidden state that a step computes. -/
def St.out (wh : Vec F S256x1024 .bf16) (b : Vec F S8x1024 .f32) (wl : Vec F S256x256 .f32) (bl : Vec F S8x256 .f32)
    (wo : Vec F S256x128 .f32) (bo : Vec F S8x128 .f32) (st : St F) : Vec F S1024x128 .f32 :=
  k1_pay3 (k1_pay10 st.x st.h wh (row8 b) st.c) wl (row8 bl) wo (row8 bo)

/-- The condition under which the body clears the state, as the body spells it. -/
abbrev first (i : grid1.Coords) : BitVec 1 := Scalar.cmpi .ne (Scalar.extui (Scalar.cmpi .eq (BitVec.ofNat 32 (i 0).val) 0#32) : BitVec 32) 0#32

section Triple

variable (c : Dev nD) (i : grid1.Coords)
  (a1 : Memref sig .tc .vmem S1x1024x128 .f32) (h1 : a1.IsWhole) (a2 : Memref sig .tc .vmem S1x1024x128 .f32) (h2 : a2.IsWhole)
  (a3 : Memref sig .tc .vmem S128x1024 .bf16) (h3 : a3.IsWhole) (a4 : Memref sig .tc .vmem S256x1024 .bf16) (h4 : a4.IsWhole)
  (a5 : Memref sig .tc .vmem S8x1024 .f32) (h5 : a5.IsWhole) (a6 : Memref sig .tc .vmem S256x256 .f32) (h6 : a6.IsWhole)
  (a7 : Memref sig .tc .vmem S8x256 .f32) (h7 : a7.IsWhole) (a8 : Memref sig .tc .vmem S256x128 .f32) (h8 : a8.IsWhole)
  (a9 : Memref sig .tc .vmem S8x128 .f32) (h9 : a9.IsWhole) (a10 : Memref sig .tc .vmem S1024x128 .f32) (h10 : a10.IsWhole)
  (a11 : Memref sig .tc .vmem S1024x256 .f32) (h11 : a11.IsWhole) (a12 : Memref sig .tc .vmem S1024x256 .f32) (h12 : a12.IsWhole)
  (a13 : Memref sig .tc .vmem S1024x1024 .f32) (h13 : a13.IsWhole)

/-- The carried state, in the three scratch buffers. -/
def holds (st : St F) : sProp (MT nD τ sig (HIx 1) (Elt F) ℕ UU ℕ) :=
  iprop(owns (c : Thread nD τ) a11 fullShare st.h ∗ owns (c : Thread nD τ) a12 fullShare st.c ∗ owns (c : Thread nD τ) a13 fullShare st.x)

/-- The origin of an array of rank two. -/
theorem zero2 : ∀ a : Fin 2, (![0, 0] : Fin 2 → ℕ) a = 0 := by decide
/-- The origin of an array of rank three. -/
theorem zero3 : ∀ a : Fin 3, (![0, 0, 0] : Fin 3 → ℕ) a = 0 := by decide

/-- A load of the first row of eight reads that row. -/
theorem owns_load_row {n : ℕ} {e : EltTy} {m : Memref sig .tc .vmem ⟨2, ![8, n]⟩ e}
    {hb : ∀ a, (![0, 0] : Fin 2 → ℕ) a + (![1, n] : Fin 2 → ℕ) a ≤ (![8, n] : Fin 2 → ℕ) a}
    {hl : m.view.LoadsAt (Rect.unit (s := ⟨2, ![8, n]⟩) ![0, 0] ![1, n] hb).toLoadRect}
    {X : Vec F ⟨2, ![8, n]⟩ e} {α : Type} {k : Vec F ⟨2, ![1, n]⟩ e → Prog (TpuEff nD τ sig (Elt F) Λ₀ .tc) α}
    {Q : α → sProp (MT nD τ sig (HIx 1) (Elt F) ℕ UU ℕ)} :
    (owns (c : Thread nD τ) m fullShare X : sProp (MT nD τ sig (HIx 1) (Elt F) ℕ UU ℕ))
      ⊢ iprop((owns (c : Thread nD τ) m fullShare X -∗ wp frame (wpE defs₀ Variants.none (c : Thread nD τ) none) Set.univ (k (row8 X)) Q)
          -∗ wp frame (wpE defs₀ Variants.none (c : Thread nD τ) none) Set.univ (.op (.load m (Rect.unit (s := ⟨2, ![8, n]⟩) ![0, 0] ![1, n] hb).toLoadRect hl) k) Q) := by
  have e : (fun x => X ((Rect.unit (s := ⟨2, ![8, n]⟩) ![0, 0] ![1, n] hb).emb x)) = row8 X := by
    funext x
    refine congrArg X (funext fun a => Fin.ext ?_)
    fin_cases a
    · change 0 + 1 * (x 0).val = 0
      have : (x 0).val < 1 := (x 0).isLt
      omega
    · change 0 + 1 * (x 1).val = (x 1).val
      omega
  have H := owns_load (df := defs₀ (F := F)) Variants.none (c := (c : Thread nD τ)) none (Q := Q) (m := m)
    (r := Rect.unit (s := ⟨2, ![8, n]⟩) ![0, 0] ![1, n] hb) (hl := hl) (q := fullShare) (X := X) (k := k)
  rw [e] at H
  exact H

set_option maxHeartbeats 2000000 in
/-- The first part of the body: the state is cleared if the point is the first, and the step's new cell state stored. -/
theorem part1_wp (x0 x1 : Vec F S1x1024x128 .f32) (wx : Vec F S128x1024 .bf16) (wh : Vec F S256x1024 .bf16) (b : Vec F S8x1024 .f32) (st : St F)
    {Q : (Σ' (arg0 : BitVec 32), FVec F S1024x256 .f32) → sProp (MT nD τ sig (HIx 1) (Elt F) ℕ UU ℕ)} :
    iprop(holds c a11 a12 a13 st ∗ owns (c : Thread nD τ) a2 fullShare x1 ∗ owns (c : Thread nD τ) a3 fullShare wx
        ∗ owns (c : Thread nD τ) a4 fullShare wh ∗ owns (c : Thread nD τ) a5 fullShare b)
      ⊢ iprop((∀ st' : St F, ⌜st' = if first i = 1#1 then St.start x1 wx else st⌝ -∗ ∀ o : BitVec 32,
            iprop(holds c a11 a12 a13 ⟨st'.h, k1_pay11 st'.x st'.h wh (row8 b) st'.c, st'.x⟩ ∗ owns (c : Thread nD τ) a2 fullShare x1
              ∗ owns (c : Thread nD τ) a3 fullShare wx ∗ owns (c : Thread nD τ) a4 fullShare wh ∗ owns (c : Thread nD τ) a5 fullShare b)
            -∗ Q ⟨o, k1_pay10 st'.x st'.h wh (row8 b) st'.c⟩)
          -∗ wp frame (wpE defs₀ Variants.none (c : Thread nD τ) none) Set.univ
              (k1_part1 i a1 h1 a2 h2 a3 h3 a4 h4 a5 h5 a6 h6 a7 h7 a8 h8 a9 h9 a10 h10 a11 h11 a12 h12 a13 h13) Q) := by
  rw [k1_part1_eq_skeleton]
  unfold k1_part1_skel holds
  iintro ⟨⟨Hh, Hc, Hx⟩, H2, H3, H4, H5⟩ Hk
  by_cases hi : first i = 1#1
  · have hi' := hi
    unfold first at hi'
    simp only [dif_pos hi', Prog.lift, Prog.bind_op, Prog.bind_ret]
    iapply (owns_load_all (df := defs₀ (F := F)) Variants.none none zero2) $$ Hh; iintro Hh
    iapply (owns_store_all (df := defs₀ (F := F)) Variants.none none zero2) $$ Hh; iintro Hh
    iapply (owns_load_all (df := defs₀ (F := F)) Variants.none none zero2) $$ Hc; iintro Hc
    iapply (owns_store_all (df := defs₀ (F := F)) Variants.none none zero2) $$ Hc; iintro Hc
    iapply (owns_load_all (df := defs₀ (F := F)) Variants.none none zero3) $$ H2; iintro H2
    iapply (owns_load_all (df := defs₀ (F := F)) Variants.none none zero2) $$ H3; iintro H3
    iapply (owns_load_all (df := defs₀ (F := F)) Variants.none none zero2) $$ Hx; iintro Hx
    iapply (owns_store_all (df := defs₀ (F := F)) Variants.none none zero2) $$ Hx; iintro Hx
    iapply (owns_load_all (df := defs₀ (F := F)) Variants.none none zero2) $$ Hx; iintro Hx
    iapply (owns_load_all (df := defs₀ (F := F)) Variants.none none zero2) $$ Hh; iintro Hh
    iapply (owns_load_all (df := defs₀ (F := F)) Variants.none none zero2) $$ H4; iintro H4
    iapply (owns_load_row c) $$ H5; iintro H5
    iapply (owns_load_all (df := defs₀ (F := F)) Variants.none none zero2) $$ Hc; iintro Hc
    iapply (owns_load_all (df := defs₀ (F := F)) Variants.none none zero2) $$ Hc; iintro Hc
    iapply (owns_store_all (df := defs₀ (F := F)) Variants.none none zero2) $$ Hc; iintro Hc
    sl_step
    iapply Hk $$ %(St.start x1 wx) %(by rw [if_pos hi]) %(BitVec.ofNat 32 (i 0).val)
    isplitl [Hh Hc Hx]
    · isplitl [Hh]; · iexact Hh
      isplitl [Hc] <;> iassumption
    isplitl [H2]; · iexact H2
    isplitl [H3]; · iexact H3
    isplitl [H4] <;> iassumption
  · have hi' := hi
    unfold first at hi'
    simp only [dif_neg hi', Prog.lift, Prog.bind_op, Prog.bind_ret]
    iapply (owns_load_all (df := defs₀ (F := F)) Variants.none none zero2) $$ Hx; iintro Hx
    iapply (owns_load_all (df := defs₀ (F := F)) Variants.none none zero2) $$ Hh; iintro Hh
    iapply (owns_load_all (df := defs₀ (F := F)) Variants.none none zero2) $$ H4; iintro H4
    iapply (owns_load_row c) $$ H5; iintro H5
    iapply (owns_load_all (df := defs₀ (F := F)) Variants.none none zero2) $$ Hc; iintro Hc
    iapply (owns_load_all (df := defs₀ (F := F)) Variants.none none zero2) $$ Hc; iintro Hc
    iapply (owns_store_all (df := defs₀ (F := F)) Variants.none none zero2) $$ Hc; iintro Hc
    sl_step
    iapply Hk $$ %st %(by rw [if_neg hi]) %(BitVec.ofNat 32 (i 0).val)
    isplitl [Hh Hc Hx]
    · isplitl [Hh]; · iexact Hh
      isplitl [Hc] <;> iassumption
    isplitl [H2]; · iexact H2
    isplitl [H3]; · iexact H3
    isplitl [H4] <;> iassumption

set_option maxHeartbeats 2000000 in
/-- The body at a point: the state goes through the step (from the cleared state at the first point), the inputs stay, and
    the output's buffer holds the readout if the point is the last. -/
theorem body_wp (x0 x1 : Vec F S1x1024x128 .f32) (wx : Vec F S128x1024 .bf16) (wh : Vec F S256x1024 .bf16) (b : Vec F S8x1024 .f32)
    (wl : Vec F S256x256 .f32) (bl : Vec F S8x256 .f32) (wo : Vec F S256x128 .f32) (bo : Vec F S8x128 .f32) (o : Vec F S1024x128 .f32) (st : St F)
    {Q : PUnit → sProp (MT nD τ sig (HIx 1) (Elt F) ℕ UU ℕ)} :
    iprop(holds c a11 a12 a13 st ∗ owns (c : Thread nD τ) a1 fullShare x0 ∗ owns (c : Thread nD τ) a2 fullShare x1 ∗ owns (c : Thread nD τ) a3 fullShare wx
        ∗ owns (c : Thread nD τ) a4 fullShare wh ∗ owns (c : Thread nD τ) a5 fullShare b ∗ owns (c : Thread nD τ) a6 fullShare wl
        ∗ owns (c : Thread nD τ) a7 fullShare bl ∗ owns (c : Thread nD τ) a8 fullShare wo ∗ owns (c : Thread nD τ) a9 fullShare bo
        ∗ owns (c : Thread nD τ) a10 fullShare o)
      ⊢ iprop((∀ st' : St F, ⌜st' = if first i = 1#1 then St.start x1 wx else st⌝ -∗
            iprop(holds c a11 a12 a13 (St.step x0 wx wh b st') ∗ owns (c : Thread nD τ) a1 fullShare x0 ∗ owns (c : Thread nD τ) a2 fullShare x1
              ∗ owns (c : Thread nD τ) a3 fullShare wx ∗ owns (c : Thread nD τ) a4 fullShare wh ∗ owns (c : Thread nD τ) a5 fullShare b
              ∗ owns (c : Thread nD τ) a6 fullShare wl ∗ owns (c : Thread nD τ) a7 fullShare bl ∗ owns (c : Thread nD τ) a8 fullShare wo
              ∗ owns (c : Thread nD τ) a9 fullShare bo
              ∗ owns (c : Thread nD τ) a10 fullShare (if k1_cond2 i = 1#1 then St.out wh b wl bl wo bo st' else o))
            -∗ Q ⟨⟩)
          -∗ wp frame (wpE defs₀ Variants.none (c : Thread nD τ) none) Set.univ
              (cc1_body i a1 h1 a2 h2 a3 h3 a4 h4 a5 h5 a6 h6 a7 h7 a8 h8 a9 h9 a10 h10 a11 h11 a12 h12 a13 h13) Q) := by
  rw [cc1_body_eq_skeleton]
  unfold cc1_body_skel
  iintro ⟨Hst, H1, H2, H3, H4, H5, H6, H7, H8, H9, H10⟩ Hk
  rw [wp_bind]
  iapply (part1_wp c i a1 h1 a2 h2 a3 h3 a4 h4 a5 h5 a6 h6 a7 h7 a8 h8 a9 h9 a10 h10 a11 h11 a12 h12 a13 h13 x0 x1 wx wh b st) $$ [Hst H2 H3 H4 H5]
  · isplitl [Hst]; · iexact Hst
    isplitl [H2]; · iexact H2
    isplitl [H3]; · iexact H3
    isplitl [H4] <;> iassumption
  iintro %st' %hst' %w ⟨Hst, H2, H3, H4, H5⟩
  unfold holds
  icases Hst with ⟨Hh, Hc, Hx⟩
  by_cases hi : k1_cond2 i = 1#1
  · simp only [dif_pos hi, if_pos hi, Prog.lift, Prog.bind_op, Prog.bind_ret]
    iapply (owns_load_all (df := defs₀ (F := F)) Variants.none none zero2) $$ Hh; iintro Hh
    iapply (owns_store_all (df := defs₀ (F := F)) Variants.none none zero2) $$ Hh; iintro Hh
    iapply (owns_load_all (df := defs₀ (F := F)) Variants.none none zero3) $$ H1; iintro H1
    iapply (owns_load_all (df := defs₀ (F := F)) Variants.none none zero2) $$ H3; iintro H3
    iapply (owns_load_all (df := defs₀ (F := F)) Variants.none none zero2) $$ Hx; iintro Hx
    iapply (owns_store_all (df := defs₀ (F := F)) Variants.none none zero2) $$ Hx; iintro Hx
    iapply (owns_load_all (df := defs₀ (F := F)) Variants.none none zero2) $$ H6; iintro H6
    iapply (owns_load_row c) $$ H7; iintro H7
    iapply (owns_load_all (df := defs₀ (F := F)) Variants.none none zero2) $$ H8; iintro H8
    iapply (owns_load_row c) $$ H9; iintro H9
    iapply (owns_load_all (df := defs₀ (F := F)) Variants.none none zero2) $$ H10; iintro H10
    iapply (owns_store_all (df := defs₀ (F := F)) Variants.none none zero2) $$ H10; iintro H10
    sl_step
    iapply Hk $$ %st' %hst'
    isplitl [Hh Hc Hx]
    · isplitl [Hh]; · iexact Hh
      isplitl [Hc]; · iexact Hc
      iexact Hx
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [dif_neg hi, if_neg hi, Prog.lift, Prog.bind_op, Prog.bind_ret]
    iapply (owns_load_all (df := defs₀ (F := F)) Variants.none none zero2) $$ Hh; iintro Hh
    iapply (owns_store_all (df := defs₀ (F := F)) Variants.none none zero2) $$ Hh; iintro Hh
    iapply (owns_load_all (df := defs₀ (F := F)) Variants.none none zero3) $$ H1; iintro H1
    iapply (owns_load_all (df := defs₀ (F := F)) Variants.none none zero2) $$ H3; iintro H3
    iapply (owns_load_all (df := defs₀ (F := F)) Variants.none none zero2) $$ Hx; iintro Hx
    iapply (owns_store_all (df := defs₀ (F := F)) Variants.none none zero2) $$ Hx; iintro Hx
    sl_step
    iapply Hk $$ %st' %hst'
    isplitl [Hh Hc Hx]
    · isplitl [Hh]; · iexact Hh
      isplitl [Hc]; · iexact Hc
      iexact Hx
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Triple

end Cert.Proof.Run

end
-- ==== Proof.Region.lean ====
/-
  The TensorCore region: one LSTM step per grid point over the windows' blocks. What each input window's block is, the
  state after each point as a recursion over the entry contents, and the pipeline's proof data with it.
-/
module

public import proofs.«01_k».proof.Proof.Body
public import Idealize.ShloMosaic.Lib.WordCmp
public import Idealize.ShloMosaic.Lib.Pipeline.FrameBody
public import Idealize.ShloMosaic.Lib.Pipeline.RegionsLoop
public import Idealize.ShloMosaic.Lib.Pipeline.Value

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

/-! ## The entry contents, window by window -/

variable (W : Valuation τ sig (Elt F))

/-- The place in the embedded sequence of element `j` of the block of step `n`. -/
def at3 (n : ℕ) (hn : n < 50) (j : S1x1024x128.Idx) : S50x1024x128.Idx
  | ⟨0, _⟩ => ⟨n, hn⟩
  | ⟨1, _⟩ => j 1
  | ⟨2, _⟩ => j 2

/-- Step `n`'s block of an embedded sequence. -/
def rowOf (x : Vec F S50x1024x128 .f32) (n : ℕ) (hn : n < 50) : Vec F S1x1024x128 .f32 := fun j => x (at3 n hn j)

/-- The block that point `n` of the grid stages: that of the next step, the last one's at the last point. -/
def nextRow (x : Vec F S50x1024x128 .f32) (n : ℕ) : Vec F S1x1024x128 .f32 := rowOf x (min (n + 1) 49) (by omega)

/-- The region's operands. -/
structure Ops (F : FTy → Type) where
  x : Vec F S50x1024x128 .f32
  x1 : Vec F S1x1024x128 .f32
  wx : Vec F S128x1024 .bf16
  wh : Vec F S256x1024 .bf16
  b : Vec F S8x1024 .f32
  wl : Vec F S256x256 .f32
  bl : Vec F S8x256 .f32
  wo : Vec F S256x128 .f32
  bo : Vec F S8x128 .f32

/-- The operands as a valuation of the device's buffers holds them. -/
def Ops.of : Ops F :=
  ⟨W main_v2, W main_v55, W main_v15, W main_v28, W main_v42, W main_v43, W main_v45, W main_v49, W main_v54⟩

/-- The state before point `n`: at the start that of an empty recurrence, then one step after another. -/
def Ops.state (p : Ops F) : ℕ → St F
  | 0 => St.start p.x1 p.wx
  | n + 1 => St.step (nextRow p.x n) p.wx p.wh p.b (p.state n)

/-- What the region returns: the head's output over the state before the last point. -/
def Ops.result (p : Ops F) : Vec F S1024x128 .f32 := St.out p.wh p.b p.wl p.bl p.wo p.bo (p.state 49)

/-- The one coordinate of point `t` is `t`. -/
theorem coord (t : Fin cfg1.N) : (grid1.coords t 0).val = t.val := by
  have h : (grid1.coords t 0).val = t.val / 1 % 50 := Pipeline.Grid.coords_val t 0 (by decide) rfl
  have hN : t.val < 50 := lt_of_lt_of_eq t.isLt N_1
  omega

/-- The start's guard holds at point 0 alone. -/
theorem first_iff (t : Fin cfg1.N) : first (grid1.coords t) = 1#1 ↔ t.val = 0 := by
  have hN : t.val < 50 := lt_of_lt_of_eq t.isLt N_1
  simp only [first, coord]
  word_cmp

/-- The head's guard holds at point 49 alone. -/
theorem last_iff (t : Fin cfg1.N) : k1_cond2 (grid1.coords t) = 1#1 ↔ t.val = 49 := by
  have hN : t.val < 50 := lt_of_lt_of_eq t.isLt N_1
  simp only [k1_cond2, coord]
  word_cmp

/-- A block at the origin places each index at itself. -/
theorem at_zero (m n : ℕ) : 0 * m + 1 * n = n := by omega

/-- A block that places each index at itself reads the whole array. -/
theorem whole_block {S : Shape} {α : Type} (f : S.Idx → α) (g : S.Idx → S.Idx) (h : ∀ j a, (g j a).val = (j a).val) : (fun j => f (g j)) = f :=
  funext fun j => congrArg f (funext fun a => Fin.ext (h j a))

/-- So does the input weights' window, -/
theorem blk_2 (t : Fin cfg1.N) : ((cfg1.win 2).blk t).view.read (Elt F) (W (Pipeline.arrRef spec1 2)) = (Ops.of W).wx :=
  whole_block (S := S128x1024) (W main_v15) _ fun _ a => match a with
    | ⟨0, _⟩ => at_zero 128 _
    | ⟨1, _⟩ => at_zero 1024 _

/-- The rows' window is at the next step's block, and stays at the last one. -/
theorem transform_0 (t : Fin cfg1.N) : cc1_transform_0 (grid1.coords t) 0 = min (t.val + 1) 49 := by
  have hN : t.val < 50 := lt_of_lt_of_eq t.isLt N_1
  have h : ∀ n : Fin 50, (Scalar.minsi (Scalar.addi (BitVec.ofNat 32 n.val) 1#32) 49#32).toNat = min (n.val + 1) 49 := by decide +kernel
  rw [← h ⟨t.val, hN⟩, ← coord t]
  rfl

/-- The rows' window reads the next step's rows. -/
theorem blk_0 (t : Fin cfg1.N) : ((cfg1.win 0).blk t).view.read (Elt F) (W (Pipeline.arrRef spec1 0)) = nextRow (Ops.of W).x t.val := by
  funext j
  refine congrArg (W main_v2 : S50x1024x128.Idx → _) ?_
  funext a
  refine Fin.ext ?_
  have hj : (j 0).val < 1 := (j 0).isLt
  fin_cases a
  · refine Eq.trans (b := min (t.val + 1) 49 * 1 + 1 * (j 0).val) (congrArg (fun n => n * 1 + 1 * (j 0).val) (transform_0 t)) ?_
    change min (t.val + 1) 49 * 1 + 1 * (j 0).val = min (t.val + 1) 49
    omega
  · exact at_zero 1024 _
  · exact at_zero 128 _

/-- The first rows' window reads all of them. -/
theorem blk_1 (t : Fin cfg1.N) : ((cfg1.win 1).blk t).view.read (Elt F) (W (Pipeline.arrRef spec1 1)) = (Ops.of W).x1 :=
  whole_block (S := S1x1024x128) (W main_v55) _ fun _ a => match a with
    | ⟨0, _⟩ => at_zero 1 _
    | ⟨1, _⟩ => at_zero 1024 _
    | ⟨2, _⟩ => at_zero 128 _

/-- the recurrent weights', -/
theorem blk_3 (t : Fin cfg1.N) : ((cfg1.win 3).blk t).view.read (Elt F) (W (Pipeline.arrRef spec1 3)) = (Ops.of W).wh :=
  whole_block (S := S256x1024) (W main_v28) _ fun _ a => match a with
    | ⟨0, _⟩ => at_zero 256 _
    | ⟨1, _⟩ => at_zero 1024 _

/-- the gate biases', -/
theorem blk_4 (t : Fin cfg1.N) : ((cfg1.win 4).blk t).view.read (Elt F) (W (Pipeline.arrRef spec1 4)) = (Ops.of W).b :=
  whole_block (S := S8x1024) (W main_v42) _ fun _ a => match a with
    | ⟨0, _⟩ => at_zero 8 _
    | ⟨1, _⟩ => at_zero 1024 _

/-- the hidden layer's weights', -/
theorem blk_5 (t : Fin cfg1.N) : ((cfg1.win 5).blk t).view.read (Elt F) (W (Pipeline.arrRef spec1 5)) = (Ops.of W).wl :=
  whole_block (S := S256x256) (W main_v43) _ fun _ a => match a with
    | ⟨0, _⟩ => at_zero 256 _
    | ⟨1, _⟩ => at_zero 256 _

/-- the hidden layer's bias's, -/
theorem blk_6 (t : Fin cfg1.N) : ((cfg1.win 6).blk t).view.read (Elt F) (W (Pipeline.arrRef spec1 6)) = (Ops.of W).bl :=
  whole_block (S := S8x256) (W main_v45) _ fun _ a => match a with
    | ⟨0, _⟩ => at_zero 8 _
    | ⟨1, _⟩ => at_zero 256 _

/-- the output layer's weights' -/
theorem blk_7 (t : Fin cfg1.N) : ((cfg1.win 7).blk t).view.read (Elt F) (W (Pipeline.arrRef spec1 7)) = (Ops.of W).wo :=
  whole_block (S := S256x128) (W main_v49) _ fun _ a => match a with
    | ⟨0, _⟩ => at_zero 256 _
    | ⟨1, _⟩ => at_zero 128 _

/-- and the output layer's bias's. -/
theorem blk_8 (t : Fin cfg1.N) : ((cfg1.win 8).blk t).view.read (Elt F) (W (Pipeline.arrRef spec1 8)) = (Ops.of W).bo :=
  whole_block (S := S8x128) (W main_v54) _ fun _ a => match a with
    | ⟨0, _⟩ => at_zero 8 _
    | ⟨1, _⟩ => at_zero 128 _

/-! ## The proof data -/

local notation "𝕄" => MT nD τ sig (HIx 1) (Elt F) ℕ UU ℕ

variable (c : Dev nD) (R : Set (SemLoc sig × HIx 1))

/-- The three scratch buffers before point `n`: at the recurrence's state, except that at the start they hold anything. -/
def scratch (p : Ops F) (n : ℕ) : sProp 𝕄 :=
  iprop(∃ st : St F, ⌜n ≠ 0 → st = p.state n⌝
    ∗ holds c (Memref.whole cc1_scratch0) (Memref.whole cc1_scratch1) (Memref.whole cc1_scratch2) st)

/-- The pipeline's proof data from entry contents `W`: the input windows' buffers keep their blocks, the output's is the
    head's output once it is stored, the scratch buffers carry the recurrence; nothing is owed. -/
def dat : Dat τ (Elt F) (HIx 1) ℕ UU ℕ cfg1 c where
  A w := W (Pipeline.arrRef spec1 w)
  after w t := match w with
    | ⟨0, _⟩ => nextRow (Ops.of W).x t.val
    | ⟨1, _⟩ => (Ops.of W).x1
    | ⟨2, _⟩ => (Ops.of W).wx
    | ⟨3, _⟩ => (Ops.of W).wh
    | ⟨4, _⟩ => (Ops.of W).b
    | ⟨5, _⟩ => (Ops.of W).wl
    | ⟨6, _⟩ => (Ops.of W).bl
    | ⟨7, _⟩ => (Ops.of W).wo
    | ⟨8, _⟩ => (Ops.of W).bo
    | ⟨9, _⟩ => (Ops.of W).result
  Φ t := scratch c (Ops.of W) t.val
  q _ := fullShare
  owed _ := 0
  recorded _ := R

/-- Before the body at point `t` the rows' buffer holds the next step's rows, -/
theorem before_0 (t : Fin cfg1.N) (d) : (dat W c R).before 0 t d = nextRow (Ops.of W).x t.val :=
  ((dat W c R).before_in_eq_fetched 0 rfl (fun _ => rfl) (fun _ _ _ => rfl) (fun t => (blk_0 W t).symm) t d).trans (blk_0 W t)

/-- the buffer of window 1 the first step's rows, -/
theorem before_1 (t : Fin cfg1.N) (d) : (dat W c R).before 1 t d = (Ops.of W).x1 :=
  ((dat W c R).before_in_eq_fetched 1 rfl (fun _ => rfl) (fun _ _ _ => rfl) (fun t => (blk_1 W t).symm) t d).trans (blk_1 W t)

/-- the buffer of window 2 the input weights, -/
theorem before_2 (t : Fin cfg1.N) (d) : (dat W c R).before 2 t d = (Ops.of W).wx :=
  ((dat W c R).before_in_eq_fetched 2 rfl (fun _ => rfl) (fun _ _ _ => rfl) (fun t => (blk_2 W t).symm) t d).trans (blk_2 W t)

/-- the buffer of window 3 the recurrent weights, -/
theorem before_3 (t : Fin cfg1.N) (d) : (dat W c R).before 3 t d = (Ops.of W).wh :=
  ((dat W c R).before_in_eq_fetched 3 rfl (fun _ => rfl) (fun _ _ _ => rfl) (fun t => (blk_3 W t).symm) t d).trans (blk_3 W t)

/-- the buffer of window 4 the gate biases, -/
theorem before_4 (t : Fin cfg1.N) (d) : (dat W c R).before 4 t d = (Ops.of W).b :=
  ((dat W c R).before_in_eq_fetched 4 rfl (fun _ => rfl) (fun _ _ _ => rfl) (fun t => (blk_4 W t).symm) t d).trans (blk_4 W t)

/-- the buffer of window 5 the hidden layer's weights, -/
theorem before_5 (t : Fin cfg1.N) (d) : (dat W c R).before 5 t d = (Ops.of W).wl :=
  ((dat W c R).before_in_eq_fetched 5 rfl (fun _ => rfl) (fun _ _ _ => rfl) (fun t => (blk_5 W t).symm) t d).trans (blk_5 W t)

/-- the buffer of window 6 the hidden layer's bias, -/
theorem before_6 (t : Fin cfg1.N) (d) : (dat W c R).before 6 t d = (Ops.of W).bl :=
  ((dat W c R).before_in_eq_fetched 6 rfl (fun _ => rfl) (fun _ _ _ => rfl) (fun t => (blk_6 W t).symm) t d).trans (blk_6 W t)

/-- the buffer of window 7 the output layer's weights, -/
theorem before_7 (t : Fin cfg1.N) (d) : (dat W c R).before 7 t d = (Ops.of W).wo :=
  ((dat W c R).before_in_eq_fetched 7 rfl (fun _ => rfl) (fun _ _ _ => rfl) (fun t => (blk_7 W t).symm) t d).trans (blk_7 W t)

/-- the buffer of window 8 the output layer's bias. -/
theorem before_8 (t : Fin cfg1.N) (d) : (dat W c R).before 8 t d = (Ops.of W).bo :=
  ((dat W c R).before_in_eq_fetched 8 rfl (fun _ => rfl) (fun _ _ _ => rfl) (fun t => (blk_8 W t).symm) t d).trans (blk_8 W t)

/-- The table's row of the body at point `t` is the body at that point. -/
theorem row (t : Fin cfg1.N) : defs₀ (F := F) .tc cfg1.body (cfg1.bodyArgs t (cfg1.slots t)) = bodyAt1 t := by
  rfl

/-- A live window's memref is left at what the proof data says. -/
theorem leaves_live {w : Fin cfg1.W} {t : Fin cfg1.N} (h : cfg1.idle w (cfg1.grid.coords t) = false) :
    (dat W c R).leavesExact w t = owns (c : Thread nD τ) ((cfg1.win w).stage (cfg1.slots t w)) fullShare ((dat W c R).after w t) := by
  unfold Dat.leavesExact; rw [h]

/-- What the body finds at point `t`. -/
def found (t : Fin cfg1.N) : sProp 𝕄 :=
  iprop((dat W c R).Φ t.castSucc ∗ (dat W c R).owesAt (none : HIx 1) t.castSucc
    ∗ (∃ d, owns (c : Thread nD τ) (st1_0 t) fullShare ((dat W c R).before 0 t d))
    ∗ (∃ d, owns (c : Thread nD τ) (st1_1 t) fullShare ((dat W c R).before 1 t d))
    ∗ (∃ d, owns (c : Thread nD τ) (st1_2 t) fullShare ((dat W c R).before 2 t d))
    ∗ (∃ d, owns (c : Thread nD τ) (st1_3 t) fullShare ((dat W c R).before 3 t d))
    ∗ (∃ d, owns (c : Thread nD τ) (st1_4 t) fullShare ((dat W c R).before 4 t d))
    ∗ (∃ d, owns (c : Thread nD τ) (st1_5 t) fullShare ((dat W c R).before 5 t d))
    ∗ (∃ d, owns (c : Thread nD τ) (st1_6 t) fullShare ((dat W c R).before 6 t d))
    ∗ (∃ d, owns (c : Thread nD τ) (st1_7 t) fullShare ((dat W c R).before 7 t d))
    ∗ (∃ d, owns (c : Thread nD τ) (st1_8 t) fullShare ((dat W c R).before 8 t d))
    ∗ (∃ d, owns (c : Thread nD τ) (st1_9 t) fullShare ((dat W c R).before 9 t d)))

/-- What it leaves. -/
def left (t : Fin cfg1.N) : sProp 𝕄 :=
  iprop((dat W c R).Φ t.succ ∗ (dat W c R).owesAt (none : HIx 1) t.succ
    ∗ (dat W c R).leavesExact 0 t ∗ (dat W c R).leavesExact 1 t ∗ (dat W c R).leavesExact 2 t ∗ (dat W c R).leavesExact 3 t
    ∗ (dat W c R).leavesExact 4 t ∗ (dat W c R).leavesExact 5 t ∗ (dat W c R).leavesExact 6 t ∗ (dat W c R).leavesExact 7 t
    ∗ (dat W c R).leavesExact 8 t ∗ (dat W c R).leavesExact 9 t)

/-- The state a point's step runs on is the recurrence's before it. -/
theorem state_at (p : Ops F) (t : Fin cfg1.N) (st st' : St F) (hst : t.val ≠ 0 → st = p.state t.val)
    (h : st' = if first (grid1.coords t) = 1#1 then St.start p.x1 p.wx else st) : st' = p.state t.val := by
  by_cases h0 : t.val = 0
  · rw [h, if_pos ((first_iff t).mpr h0), h0]; rfl
  · rw [h, if_neg (fun e => h0 ((first_iff t).mp e)), hst h0]

/-- The body at a point, from what it finds to what it leaves. -/
theorem point_wp (t : Fin cfg1.N) :
    found W c R t ⊢ wp frame (wpE (defs₀ (F := F)) Variants.none (c : Thread nD τ) none) Set.univ (bodyAt1 t) (fun _ => left W c R t) := by
  unfold found left bodyAt1
  simp only [before_0, before_1, before_2, before_3, before_4, before_5, before_6, before_7, before_8]
  rw [show (dat W c R).owesAt (none : HIx 1) t.succ = (dat W c R).owesAt (none : HIx 1) t.castSucc from rfl,
    show (dat W c R).Φ t.succ = scratch c (Ops.of W) (t.val + 1) from rfl, show (dat W c R).Φ t.castSucc = scratch c (Ops.of W) t.val from rfl,
    leaves_live W c R (w := 0) rfl, leaves_live W c R (w := 1) rfl, leaves_live W c R (w := 2) rfl, leaves_live W c R (w := 3) rfl,
    leaves_live W c R (w := 4) rfl, leaves_live W c R (w := 5) rfl, leaves_live W c R (w := 6) rfl, leaves_live W c R (w := 7) rfl,
    leaves_live W c R (w := 8) rfl]
  unfold scratch
  iintro ⟨⟨%st, %hst, Hst⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_wp c (grid1.coords t) _ _ _ _ _ _ _ _ _ _ _ _ _ _ _ _ _ _ _ _ _ _ _ _ _ _ (nextRow (Ops.of W).x t.val) (Ops.of W).x1 (Ops.of W).wx (Ops.of W).wh
    (Ops.of W).b (Ops.of W).wl (Ops.of W).bl (Ops.of W).wo (Ops.of W).bo ((dat W c R).before 9 t d9) st) $$ [Hst H0 H1 H2 H3 H4 H5 H6 H7 H8 H9]
  · isplitl [Hst]; · iexact Hst
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %st' %hst' ⟨Hst, H0, H1, H2, H3, H4, H5, H6, H7, H8, H9⟩
  obtain rfl := state_at (Ops.of W) t st st' hst hst'
  isplitl [Hst]
  · iexists _; isplitr; swap; · iexact Hst
    ipureintro; exact fun _ => rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h1 : k1_cond2 (grid1.coords t) = 1#1
  · rw [leaves_live W c R (w := 9) (show (!(k1_cond2 (grid1.coords t) == 1#1)) = false by rw [h1]; rfl), if_pos h1]
    rw [show (dat W c R).after 9 t = (Ops.of W).result from rfl]
    unfold Ops.result
    rw [(last_iff t).mp h1]
    iexact H9
  · have hN : t.val < 50 := lt_of_lt_of_eq t.isLt N_1
    rw [Dat.leavesExact_idle (dat W c R) 9 t (show (!(k1_cond2 (grid1.coords t) == 1#1)) = true by rw [beq_eq_false_iff_ne.mpr h1]; rfl)
      (by rw [← Bool.not_eq_true, flush1_9]; intro h; exact h1 ((last_iff t).mpr (by omega))), if_neg h1]
    iexists _; iexact H9

/-- The body's obligation at every point. -/
theorem obligation : BodyObligation (dat W c R) (defs₀ (F := F)) Variants.none (none : HIx 1) Set.univ := fun t => by
  rw [bigSep_W1, bigSep_W1, row]
  exact triple_restated (point_wp W c R t) rfl .rfl fun _ => .rfl

/-- The output window's block is all of its array. -/
theorem mem_out (t : Fin cfg1.N) (i : S1024x128.Idx) : i ∈ ((cfg1.win 9).blk t).view.set := by
  show i ∈ ((View.whole main_v56).slice (win1_9.rect t)).set
  rw [View.set_slice_whole, Rect.mem_set_unit]
  intro a
  have h := (i a).isLt
  fin_cases a
  · show 0 * 1024 ≤ (i 0).val ∧ (i 0).val < 0 * 1024 + 1024
    have : (i 0).val < 1024 := h
    omega
  · show 0 * 128 ≤ (i 1).val ∧ (i 1).val < 0 * 128 + 128
    have : (i 1).val < 128 := h
    omega

/-- The output's array after the region holds the head's output. -/
theorem result_arr : (dat W c R).arrAt 9 cfg1.N = (Ops.of W).result := by
  refine (dat W c R).arrAt_eq_of_cover 9 (Ops.of W).result (fun t _ => ?_) fun i =>
    ⟨⟨49, lt_of_lt_of_eq (by decide) N_1.symm⟩, (flush1_9 _).mpr rfl, mem_out _ i⟩
  funext j
  show (Ops.of W).result j = (Ops.of W).result _
  refine congrArg (Ops.of W).result (funext fun a => Fin.ext ?_)
  fin_cases a
  · exact (at_zero 1024 _).symm
  · exact (at_zero 128 _).symm

/-- The scratch buffers at anything start the recurrence, -/
theorem scratch_in (p : Ops F) :
    iprop(BI.emp ∗ Pipeline.prefHeld (pcfgs (F := F) 0).pre c (fun _ => fullShare) (cfgs 0).toPCfg_adm.1 ∗ Pipeline.scopedRest spec1 c) ⊢ scratch c p 0 := by
  rw [scopedRest1_eq]
  unfold scratch holds
  iintro ⟨-, -, ⟨%f, H0⟩, ⟨%g, H1⟩, ⟨%h, H2⟩⟩
  iexists (⟨f, g, h⟩ : St F)
  isplitr; · ipureintro; exact fun h => absurd rfl h
  rw [owns_whole, owns_whole, owns_whole]
  isplitl [H0]; · iexact H0
  isplitl [H1]; · iexact H1
  iexact H2

/-- and after any point they are the scratch buffers again. -/
theorem scratch_out (p : Ops F) (n : ℕ) :
    scratch c p n ⊢ iprop(BI.emp ∗ BI.emp ∗ Pipeline.scopedRest spec1 c) := by
  rw [scopedRest1_eq]
  unfold scratch holds
  simp only [owns_whole_eq]
  iintro ⟨%st, -, ⟨%f, %hf, H0⟩, ⟨%g, %hg, H1⟩, ⟨%h, %hh, H2⟩⟩
  isplitr; · iempintro
  isplitr; · iempintro
  isplitl [H0]; · iexists _; iexact H0
  isplitl [H1]; · iexists _; iexact H1
  iexists _; iexact H2

/-! ## The region as a segment -/

/-- The one pipeline's admissible tables: it has none. -/
abbrev adm : (p : Fin 1) → ((pcfgs (F := F)) p).Adm := fun p => (cfgs p).toPCfg_adm

/-- The proof data, on every core. -/
def pdats : (p : Fin 1) → (c : Dev nD) → Dat τ (Elt F) (HIx 1) ℕ UU ℕ (Pipeline.pin (pcfgs (F := F)) adm p) c
  | ⟨0, _⟩ => fun c => dat W c R

/-- The valuation the region leaves. -/
def leavesV : Valuation τ sig (Elt F) := Function.update W main_v56 (Ops.of W).result

/-- What the region leaves in each window's array is what that valuation says. -/
theorem arr_leaves (w : Fin cfg1.W) : leavesV W (Pipeline.arrRef spec1 w) = (dat W c R).arrAt w cfg1.N := by
  by_cases h : w = 9
  · subst h
    exact (Function.update_self _ _ _).trans (result_arr W c R).symm
  · have hw : (cfg1.win w).isOut = false := by
      revert h; revert w; decide
    refine (Function.update_of_ne (fun e => h (launch1.win.arr_inj (Proc.devRef_injective _ e))) _ _).trans ((dat W c R).arrAt_in w hw _).symm

variable (L : GSem nD τ sig → Finset (HIx 1)) (lv : GSem nD τ sig → HIx 1 → ℕ)

set_option backward.isDefEq.respectTransparency.types false in
/-- The region over "every unscoped buffer at `W`, and nothing owed, the recorded pairs within `R`". -/
def seg : Pipeline.RegionSeg (pcfgs (F := F)) adm (pdats W R) (none : HIx 1) defs₀ 𝒱₀ L lv 0 where
  win := launch1.win.to₀
  block_pos := block_pos1
  stage_whole := stage_whole1
  K := PEmpty
  osem k := k.elim
  ho := Pipeline.OwnSemFacts.none _
  hbody c := (obligation W c R).loose
  hwaits := Pipeline.hwaits_of_owed_zero _ _ _ _ L lv 0 fun _ _ => rfl
  pre c := iprop(unscopedBufs c (fun b => W b) ∗ ∃ X, ⌜∀ p ∈ X, p ∈ R⌝ ∗ owes (c : Thread nD τ) (0 : CellTallies nD τ sig (HIx 1)) X)
  post c := iprop(unscopedBufs c (fun b => leavesV W b)
    ∗ ∃ X, ⌜∀ p ∈ X, p ∈ R ∨ p.2 = none⌝ ∗ owes (c : Thread nD τ) (0 : CellTallies nD τ sig (HIx 1)) X)
  X _ := BI.emp
  Y _ := BI.emp
  Z c := Pipeline.unscopedRest (Ix := HIx 1) (Name := ℕ) (U := UU) (Lvl := ℕ) spec1 c (fun b => W b)
  hentry c := by
    rw [Pipeline.ownSems0_none]
    have hsplit := Pipeline.arrays_of_unscopedBufs (p := 0) (pcfgs (F := F)) adm (pdats W R) launch1.win arr_whole1 c
      ((dat W c R).share_full fun _ => rfl) (fun b => W b) fun _ => rfl
    iintro ⟨⟨Hub, ⟨%X, %hX, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists X; isplitr; · ipureintro; exact fun p hp => Or.inl (hX p hp)
      iexact HO
    isplitr; · iempintro
    iexact Hrest
  hin c := by
    rw [show (pdats W R 0 c).Φ 0 = scratch c (Ops.of W) 0 from rfl]
    exact scratch_in c (Ops.of W)
  hout c := by
    rw [Pipeline.ownSems0_none, show (pdats W R 0 c).Φ (Fin.last _) = scratch c (Ops.of W) cfg1.N from rfl]
    exact scratch_out c (Ops.of W) cfg1.N
  hexit c := by
    have hjoin := Pipeline.unscopedBufs_of_arrays (p := 0) (pcfgs (F := F)) adm (Ix := HIx 1) (Name := ℕ) (U := UU) (Lvl := ℕ) launch1.win arr_whole1 c
      (pdats W R) ((dat W c R).share_full fun _ => rfl) (fun b => W b) (fun b => leavesV W b) ((dat W c R).arrAt · cfg1.N)
      (fun w => (arr_leaves W c R w).symm)
      (fun b hb => Function.update_of_ne (fun h => hb (Finset.mem_image.mpr ⟨9, Finset.mem_univ _, (Proc.devRef_injective _ h).symm⟩)) _ _)
    iintro ⟨Ha, HO, -, Hrest⟩
    imodintro
    isplitl [Ha Hrest]
    · iapply hjoin; isplitl [Ha]; · iexact Ha
      iexact Hrest
    unfold Pipeline.Dat.owesAt Pipeline.owesWithin
    icases HO with ⟨%X, %hX, HO⟩; iexists X; isplitr; swap; · iexact HO
    ipureintro
    intro p hp
    rcases hX hp with h | ⟨w, s, rfl⟩
    · exact Or.inl h
    · exact Or.inr rfl

end Cert.Proof.Run

end
-- ==== Proof.Launch.lean ====
/-
  The whole run: the launch's ghost state, the host program with both launches in it, and what every buffer the claims
  name holds at the end.
-/
module

public import proofs.«01_k».proof.Proof.Host
public import proofs.«01_k».proof.Proof.Deal
public import proofs.«01_k».proof.Proof.Region
public import Idealize.ShloMosaic.Lib.SparseCore.Quiescent

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the TensorCore's buffers, launch by launch -/

/-- At the launch, -/
def V0 (d : Dev nD) : Valuation τ sig (Elt F) := fun b => m (d, b)
/-- with the indices flattened, -/
def V1 (d : Dev nD) : Valuation τ sig (Elt F) := StableHlo.after opsIn (V0 m d)
/-- with the rows gathered, -/
def V2 (d : Dev nD) : Valuation τ sig (Elt F) :=
  Function.update (V1 m d) main_v1 (gath (V1 m d main_arg1) (V1 m d main_v0))
/-- with the operands packed, -/
def V3 (d : Dev nD) : Valuation τ sig (Elt F) := StableHlo.after opsMid (V2 m d)
/-- with the recurrence run, -/
def V4 (d : Dev nD) : Valuation τ sig (Elt F) := leavesV (V3 m d)
/-- and at the end. -/
def V5 (d : Dev nD) : Valuation τ sig (Elt F) := StableHlo.after opsOut (V4 m d)

/-- What the SparseCore call is given. -/
abbrev PP : (K (F := F)).Pay (nD := nD) (Val := Elt F) (Name := ℕ) (U := UU) :=
  P (fun d => V1 m d main_arg1) (fun d => V1 m d main_v0) (fun d => V1 m d main_v1)

/-! ## The launch's ghost state -/

/-- The pipeline's cells are different. -/
theorem phinj : Function.Injective (Pipeline.cellOf (nD := nD) (τ := τ) (Pipeline.pin (pcfgs (F := F)) adm)) := cellOf_inj

/-- The handshakes' element and the pipeline's. -/
def u₀ : UU := ((initOf (K (F := F)).hsCells (K (F := F)).hsToks,
  initOf (Pipeline.cells (nD := nD) (τ := τ) (Pipeline.pin (pcfgs (F := F)) adm) phinj) (Pipeline.launchToks (Pipeline.pin (pcfgs (F := F)) adm) phinj)), 1)

/-- A device's part of the pipeline's. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The two protocols' elements, each through its own embedding. -/
theorem split_ghost (a : UH) (b : UP) : (BI.own ((embL : Emb (UH × UP) 𝕄) (a, b)) : sProp 𝕄) ⊢ iprop(BI.own (EH a) ∗ BI.own (EP b)) :=
  own_pair_emb _ a b

/-- Nothing, any number of times, is nothing. -/
theorem nothing {I : Type} (s : Finset I) : (bigSep s fun _ => iprop(emp)) = (iprop(emp) : sProp 𝕄) := bigSep_emp_const s

/-- The launch's element gives both protocols' parts. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (PP m).x q thr) := by
  unfold u₀
  iintro Hu
  ihave H := (ownU_pair (initOf (K (F := F)).hsCells (K (F := F)).hsToks,
    initOf (Pipeline.cells (nD := nD) (τ := τ) (Pipeline.pin (pcfgs (F := F)) adm) phinj) (Pipeline.launchToks (Pipeline.pin (pcfgs (F := F)) adm) phinj)) (1 : Counters)) $$ Hu
  icases H with ⟨HHP, -⟩
  ihave H := (split_ghost (initOf (K (F := F)).hsCells (K (F := F)).hsToks)
    (initOf (Pipeline.cells (nD := nD) (τ := τ) (Pipeline.pin (pcfgs (F := F)) adm) phinj) (Pipeline.launchToks (Pipeline.pin (pcfgs (F := F)) adm) phinj))) $$ HHP
  icases H with ⟨HH, HP⟩
  imod (Pipeline.fund_ghost (Pipeline.pin (pcfgs (F := F)) adm) EP phinj) $$ HP with ⟨HC, HT⟩
  imodintro
  isplitl [HH]; · iexact HH
  isplitl [HC HT]
  · rw [show (bigSep Finset.univ (G (F := F)) : sProp 𝕄) = iprop((bigSep Finset.univ fun d : Dev nD => bigSep Finset.univ fun p : Fin 1 =>
        Pipeline.cellsGhost (Pipeline.pin (pcfgs (F := F)) adm) EP p d) ∗ bigSep Finset.univ fun d : Dev nD => bigSep Finset.univ fun p : Fin 1 =>
        Pipeline.toksInit (Pipeline.pin (pcfgs (F := F)) adm) EP p d) from by
      rw [← bigSep_sep']
      exact bigSep_congr fun d _ => by rw [bigSep_univ_of_subsingleton (0 : Fin 1), bigSep_univ_of_subsingleton (0 : Fin 1)]; rfl]
    isplitl [HC]; · iexact HC
    iexact HT
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), nothing]
  iempintro

/-! ## The buffers the SparseCore call takes -/

/-- The table, the indices and the rows gathered, -/
def lent : Finset (DevRef τ sig) := {↑main_arg1, ↑main_v0, ↑main_v1}

/-- They are among the TensorCore's buffers, -/
theorem lent_sub : lent ⊆ Pipeline.ucRefs τ sig := by
  intro b hb
  simp only [lent, Finset.mem_insert, Finset.mem_singleton] at hb
  rcases hb with rfl | rfl | rfl <;> exact Finset.mem_filter.mpr ⟨StableHlo.devRef_mem_tcRefs _, by decide⟩

/-- three of them, -/
theorem held_lent (d : Dev nD) (V : Valuation τ sig (Elt F)) :
    (StableHlo.held (d.tc : Thread nD τ) lent V : sProp 𝕄)
      = iprop((eLoc d ↦{fullShare} V main_arg1) ∗ (iLoc d ↦{fullShare} V main_v0) ∗ oLoc d ↦{fullShare} V main_v1) := by
  unfold StableHlo.held lent
  rw [SparseCore.bigSep_insert' (by decide), SparseCore.bigSep_insert' (by decide), bigSep_singleton]

/-- cut out of the TensorCore's buffers. -/
theorem held_cut (d : Dev nD) (V : Valuation τ sig (Elt F)) :
    (StableHlo.held (d.tc : Thread nD τ) (Pipeline.ucRefs τ sig) V : sProp 𝕄)
      = iprop(((eLoc d ↦{fullShare} V main_arg1) ∗ (iLoc d ↦{fullShare} V main_v0) ∗ oLoc d ↦{fullShare} V main_v1)
          ∗ StableHlo.held (d.tc : Thread nD τ) (Pipeline.ucRefs τ sig \ lent) V) := by
  rw [StableHlo.held_sub_split _ lent_sub, held_lent]

/-- What the call does not take is as it was. -/
theorem rest_kept (d : Dev nD) :
    (StableHlo.held (d.tc : Thread nD τ) (Pipeline.ucRefs τ sig \ lent) (V1 m d) : sProp 𝕄)
      = StableHlo.held (d.tc : Thread nD τ) (Pipeline.ucRefs τ sig \ lent) (V2 m d) :=
  StableHlo.held_congr _ fun b hb => (Function.update_of_ne (fun e : b = Proc.devRef .tc main_v1 => (Finset.mem_sdiff.mp hb).2 (by
    rw [e]; simp only [lent, Finset.mem_insert, Finset.mem_singleton, or_true])) _ _).symm

/-- What the call's tiles are given is the three buffers whole, -/
theorem st0_eq (d : Dev nD) : (bigSep Finset.univ fun c : Fin ((K (F := F)).nCore 0) => (PP m).st 0 d c)
    = (iprop((eLoc d ↦{fullShare} V1 m d main_arg1) ∗ (iLoc d ↦{fullShare} V1 m d main_v0) ∗ oLoc d ↦{fullShare} V1 m d main_v1) : sProp 𝕄) :=
  (deal d _ _ _).symm

/-- and what they give back is the three, the rows gathered. -/
theorem dn0_eq (d : Dev nD) : (bigSep Finset.univ fun c : Fin ((K (F := F)).nCore 0) => (PP m).dn 0 d c)
    = (iprop((eLoc d ↦{fullShare} V2 m d main_arg1) ∗ (iLoc d ↦{fullShare} V2 m d main_v0) ∗ oLoc d ↦{fullShare} V2 m d main_v1) : sProp 𝕄) := by
  have h1 : V2 m d main_arg1 = V1 m d main_arg1 := Function.update_of_ne (by decide) _ _
  have h2 : V2 m d main_v0 = V1 m d main_v0 := Function.update_of_ne (by decide) _ _
  have h3 : V2 m d main_v1 = gath (V1 m d main_arg1) (V1 m d main_v0) := Function.update_self ..
  rw [h1, h2, h3]
  exact (deal d _ _ _).symm

/-! ## The host program -/

/-- What a device's TensorCore ends with: its buffers at the last contents. -/
def FIN (d : Dev nD) : sProp 𝕄 := StableHlo.held (d.tc : Thread nD τ) (Pipeline.ucRefs τ sig) (V5 m d)

/-- The pairs a TensorCore may have recorded, up to a level. -/
def recorded (d : Dev nD) (w : ℕ) : Set (SemLoc sig × HIx 1) := {p | (K (F := F)).lev (SparseCore.T d, p.1) p.2 ≤ w}

set_option maxRecDepth 16384 in
/-- The region's call, as the host program writes it. -/
theorem region_eq : (Prog.lift (.customCall (SparseCore.inner (Pipeline.entry 0)) ()) :
      Prog (TpuEff nD τ sig (Elt F) (SparseCore.Sig (ΛP (F := F)) 1) .tc) PUnit)
    = SparseCore.liftProg (.op (.customCall (Pipeline.entry 0) ()) .ret : Prog (TpuEff nD τ sig (Elt F) (ΛP (F := F)) .tc) PUnit) := rfl

set_option backward.isDefEq.respectTransparency.types false in
/-- The TensorCore region, entered with the buffers at `V3`. -/
theorem region_wp [∀ e, Nonempty (Elt F e)] (d : Dev nD) (L : GSem nD τ sig → Finset (HIx 1)) (lv : GSem nD τ sig → HIx 1 → ℕ) (R : Set (SemLoc sig × HIx 1)) (Φ : PUnit → sProp 𝕄) :
    iprop((iprop(boundary (d.tc : Thread nD τ) ∗ StableHlo.held (d.tc : Thread nD τ) (Pipeline.ucRefs τ sig) (V4 m d)
            ∗ ∃ X, ⌜∀ p ∈ X, p ∈ R ∨ p.2 = none⌝ ∗ owes (d : Thread nD τ) (0 : CellTallies nD τ sig (HIx 1)) X) -∗ Φ ⟨⟩)
        ∗ boundary (d.tc : Thread nD τ) ∗ StableHlo.held (d.tc : Thread nD τ) (Pipeline.ucRefs τ sig) (V3 m d)
        ∗ (∃ X, ⌜∀ p ∈ X, p ∈ R⌝ ∗ owes (d : Thread nD τ) (0 : CellTallies nD τ sig (HIx 1)) X)
        ∗ levAts L lv ∗ G (F := F) d)
      ⊢ wp frame (wpE ((K (F := F)).defs (D (F := F))) 𝒱 (SparseCore.T d) none) Set.univ
          (Prog.lift (.customCall (SparseCore.inner (Pipeline.entry 0)) ())) Φ := by
  rw [region_eq]
  refine BI.Entails.trans ?_ ((K (F := F)).wp_liftProg (D (F := F)) 𝒱 (SparseCore.T d) Set.univ none _ _)
  rw [← Pipeline.unscopedBufs_held, ← Pipeline.unscopedBufs_held]
  unfold G V4
  have key : (iprop((iprop(boundary (d.tc : Thread nD τ) ∗ unscopedBufs d (fun b => leavesV (V3 m d) b)
            ∗ ∃ X, ⌜∀ p ∈ X, p ∈ R ∨ p.2 = none⌝ ∗ owes (d : Thread nD τ) (0 : CellTallies nD τ sig (HIx 1)) X) -∗ Φ ⟨⟩)
        ∗ boundary (d.tc : Thread nD τ) ∗ unscopedBufs d (fun b => V3 m d b)
        ∗ (∃ X, ⌜∀ p ∈ X, p ∈ R⌝ ∗ owes (d : Thread nD τ) (0 : CellTallies nD τ sig (HIx 1)) X)
        ∗ levAts L lv ∗ Pipeline.cellsGhost (Pipeline.pin (pcfgs (F := F)) adm) EP 0 d ∗ Pipeline.toksInit (Pipeline.pin (pcfgs (F := F)) adm) EP 0 d) : sProp 𝕄)
      ⊢ iprop((iprop(boundary (d.tc : Thread nD τ) ∗ (seg (V3 m d) R L lv).post d)
            -∗ wp frame (wpE (D (F := F)) 𝒱 (d.tc : Thread nD τ) none) Set.univ (Prog.ret PUnit.unit) Φ)
        ∗ boundary (d.tc : Thread nD τ) ∗ (seg (V3 m d) R L lv).pre d
        ∗ levAts L lv ∗ Pipeline.cellsGhost (Pipeline.pin (pcfgs (F := F)) adm) EP 0 d ∗ Pipeline.toksInit (Pipeline.pin (pcfgs (F := F)) adm) EP 0 d) := by
    rw [show (seg (V3 m d) R L lv).post d = iprop(unscopedBufs d (fun b => leavesV (V3 m d) b)
        ∗ ∃ X, ⌜∀ p ∈ X, p ∈ R ∨ p.2 = none⌝ ∗ owes (d : Thread nD τ) (0 : CellTallies nD τ sig (HIx 1)) X) from rfl,
      show (seg (V3 m d) R L lv).pre d = iprop(unscopedBufs d (fun b => V3 m d b)
        ∗ ∃ X, ⌜∀ p ∈ X, p ∈ R⌝ ∗ owes (d : Thread nD τ) (0 : CellTallies nD τ sig (HIx 1)) X) from rfl]
    iintro ⟨Hk, Hb, Hh, HO, Hl, HC, HT⟩
    isplitl [Hk]
    · iintro ⟨Hb, Hp⟩
      rw [wp_ret]
      imodintro
      iapply Hk
      isplitl [Hb]; · iexact Hb
      iexact Hp
    isplitl [Hb]; · iexact Hb
    isplitl [Hh HO]
    · isplitl [Hh]; · iexact Hh
      iexact HO
    isplitl [Hl]; · iexact Hl
    isplitl [HC]; · iexact HC
    iexact HT
  exact key.trans (Pipeline.RegionSeg.wp (pcfgs (F := F)) adm (pdats (V3 m d) R) (none : HIx 1) phinj EP defs₀ 𝒱₀ L lv
    (seg (V3 m d) R L lv) d none (fun _ h => nomatch h) .ret Φ)

end Cert.Proof.Run

end
-- ==== Proof.Main.lean ====
/-
  The host program's run, and the whole program's: every weight and table is left as it was, every counter reads zero, and
  the result is a closed expression of the arguments.
-/
module

public import proofs.«01_k».proof.Proof.Launch

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

set_option backward.isDefEq.respectTransparency.types false in
/-- The TensorCore's program runs from the launch's resources to its buffers at the last contents. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [show (unscopedBufs d fun b => m ((SparseCore.T d).loc b) : sProp 𝕄) = StableHlo.held (d.tc : Thread nD τ) (Pipeline.ucRefs τ sig) (V0 m d) from
    Pipeline.unscopedBufs_held d (V0 m d), main_eq]
  iintro ⟨#Hctx, Hst, ⟨Hb, Hh, Hts, -⟩, HG⟩
  -- the indices flattened
  iapply (StableHlo.wp_seq 𝒱 none Set.univ d (Pipeline.ucRefs τ sig) _ opsIn (fun op h => Pipeline.sub_ucRefs op ((List.forall_iff_forall_mem.mp opsIn_sub) op h))
    (fun op h => (List.forall_iff_forall_mem.mp opsIn_fresh) op h) (V0 m d)) $$ [Hb Hh]
  · isplitl [Hb]; · iexact Hb
    iexact Hh
  rw [show StableHlo.after opsIn (V0 m d) = V1 m d from rfl]
  iintro ⟨Hb, Hh⟩
  -- the SparseCore call
  ihave Hc := (Entails.of_eq (held_cut d (V1 m d))) $$ Hh
  icases Hc with ⟨Hl, Hr⟩
  rw [wp_bind]
  iapply ((K (F := F)).wp_run (D (F := F)) 𝒱 (EH := EH) (P := PP m) κ d 0) $$ [Hst Hl Hr Hb Hts HG]
  isplitr; · iexact Hctx
  isplitl [Hst]; · iexact Hst
  isplitl [Hl]; · rw [st0_eq]; iexact Hl
  iintro ⟨Hst, Hdn⟩
  ihave Hl := (Entails.of_eq (dn0_eq m d)) $$ Hdn
  ihave Hr := (Entails.of_eq (rest_kept m d)) $$ Hr
  ihave Hh := (Entails.of_eq (held_cut d (V2 m d)).symm) $$ [Hl Hr]
  · isplitl [Hl]; · iexact Hl
    iexact Hr
  -- the packing
  iapply (StableHlo.wp_seq 𝒱 none Set.univ d (Pipeline.ucRefs τ sig) _ opsMid (fun op h => Pipeline.sub_ucRefs op ((List.forall_iff_forall_mem.mp opsMid_sub) op h))
    (fun op h => (List.forall_iff_forall_mem.mp opsMid_fresh) op h) (V2 m d)) $$ [Hb Hh]
  · isplitl [Hb]; · iexact Hb
    iexact Hh
  rw [show StableHlo.after opsMid (V2 m d) = V3 m d from rfl]
  iintro ⟨Hb, Hh⟩
  -- the recurrence
  rw [wp_bind]
  unfold SparseCore.Cfg.tcSt
  icases Hst with ⟨⟨%W, %hW, HO⟩, Hst⟩
  ihave Hlev := ((K (F := F)).ctx_levAts κ) $$ Hctx
  iapply (region_wp m d _ _ (recorded d _)) $$ [Hb Hh HO HG Hlev Hst Hts]
  isplitl [Hst Hts]
  · iintro ⟨Hb, Hh, HO⟩
    rw [show (StableHlo.seq opsOut : Prog (TpuEff nD τ sig (Elt F) (SparseCore.Sig (ΛP (F := F)) 1) .tc) PUnit) = StableHlo.seq opsOut >>= fun x => pure x from rfl]
    iapply (StableHlo.wp_seq 𝒱 none Set.univ d (Pipeline.ucRefs τ sig) _ opsOut (fun op h => Pipeline.sub_ucRefs op ((List.forall_iff_forall_mem.mp opsOut_sub) op h))
      (fun op h => (List.forall_iff_forall_mem.mp opsOut_fresh) op h) (V4 m d)) $$ [Hb Hh]
    · isplitl [Hb]; · iexact Hb
      iexact Hh
    rw [show StableHlo.after opsOut (V4 m d) = V5 m d from rfl]
    iintro ⟨Hb, Hh⟩
    rw [wp_pure]
    imodintro
    isplitl [Hst HO]
    · icases HO with ⟨%X, %hX, HO⟩
      isplitl [HO]
      · iexists X
        isplitr
        · ipureintro
          intro p hp
          rcases hX p hp with h | h
          · exact h
          · rw [h]; exact Nat.zero_le _
        · rw [(K (F := F)).Otc_end d (le_refl 1)]; iexact HO
      · iexact Hst
    isplitl [Hh]; · iexact Hh
    isplitl [Hb]; · iexact Hb
    iexact Hts
  isplitl [Hb]; · iexact Hb
  isplitl [Hh]; · iexact Hh
  isplitl [HO]
  · iexists W
    isplitr; · ipureintro; exact hW
    rw [(K (F := F)).Otc_end d (n := (0 : Fin 1).val + 1) (le_refl 1)]; iexact HO
  isplitl [Hlev]; · iexact Hlev
  iexact HG

/-! ## The end state -/

/-- Every buffer of the device's TensorCore that outlives a region is at the last contents. -/
def fq (d : Dev nD) (s' : Phys nD τ sig (Elt F)) : Prop := ∀ b ∈ Pipeline.ucRefs τ sig, s'.mem.mem (d, b) = V5 m d b

/-- Of one buffer: holding it says what the memory has there. -/
theorem fin_at (d : Dev nD) (s' : Phys nD τ sig (Elt F)) (b : DevRef τ sig) (hb : b ∈ Pipeline.ucRefs τ sig) :
    iprop(FIN m d ∗ SI s') ⊢ (⌜s'.mem.mem (d, b) = V5 m d b⌝ : sProp 𝕄) := by
  unfold FIN StableHlo.held
  rw [SparseCore.bigSep_erase' hb]
  iintro ⟨⟨Hb, -⟩, HSI⟩
  ihave H := (SI_pointsTo_agree (st := s') (ℓ := (d, b)) (I := Finset.univ) (q := fullShare) (f := V5 m d b)) $$ [HSI Hb]
  · isplitl [HSI]; · iexact HSI
    iexact Hb
  icases H with %h
  ipureintro; exact funext fun i => h i (Finset.mem_univ i)

/-- What a device ends with says what its memory is. -/
theorem hfin (d : Dev nD) (s' : Phys nD τ sig (Elt F)) : iprop(FIN m d ∗ SI s') ⊢ (⌜fq m d s'⌝ : sProp 𝕄) := by
  by_cases h : fq m d s'
  · exact BI.Laws.pure_intro h
  · simp only [fq, not_forall] at h
    obtain ⟨b, hb, hne⟩ := h
    exact (fin_at m d s' b hb).trans (BI.Laws.pure_mono fun e => absurd e hne)

/-- Every index names a row of the table. -/
def PreOK : Prop := ∀ (d : Dev nD) (j : S50x1024.Idx), (m ((SparseCore.T d).loc main_arg0) j : BitVec 32).toNat < 100000

/-- The flattened indices are in range too. -/
theorem flat_ok (h : PreOK m) (d : Dev nD) (j : S51200.Idx) : (V1 m d main_v0 j : BitVec 32).toNat < 100000 := by
  unfold V1
  rw [opsIn_v0]
  exact h d _

/-- The whole program runs to its end, its buffers at the last contents, and every counter reads zero. -/
theorem run_main [∀ e, Nonempty (Elt F e)] (hpre : PreOK m) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = V5 m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ (flat_ok m hpre))
    (fun q _ => match q with | 0 => SparseCore.Cfg.VecSplit.of_plain (vecSplit _ _ _))
    m ρ main (G (F := F)) (FIN m) (u₀ (F := F)) (sep_elim_left.trans (hu₀ m)) (hmain m ρ) (fq m) (hfin m) _ (fun _ h hz => ⟨h, hz⟩)

end Cert.Proof.Run

end
-- ==== Proof.Frames.lean ====
/-
  The kernel's frames: from the index range to the run's precondition, and every argument kept.
-/
module

public import proofs.«01_k».proof.Proof.Main
public import proofs.«01_k».proof.Defs
public import proofs.«01_k».proof.Proof.Gen.Kernel
public import proofs.«01_k».proof.Proof.Gen.Pre_in_vocab
public import Idealize.ShloMosaic.Lib.ReduceAll

@[expose] public section

noncomputable section

namespace Cert.Proof.Run

open Cert.KernelIdeal Cert.KernelIdeal.Gen

open Idealize.ShloMosaic Idealize.ShloMosaic.TcCoe
open Idealize.SL Idealize.SL.Sem

variable {F : FTy → Type} [FloatOps F]

instance : Subsingleton (⟨0, ![]⟩ : Shape).Idx := ⟨fun _ _ => funext fun a => a.elim0⟩

/-- A signed word not negative and below the table's height is that as a natural number. -/
theorem word_in_vocab (v : BitVec 32) (h0 : (0#32).toInt ≤ v.toInt) (h1 : v.toInt < (100000#32).toInt) : v.toNat < 100000 := by
  rw [BitVec.toInt_eq_toNat_cond] at h0 h1
  simp only [BitVec.toInt_eq_toNat_cond, BitVec.toNat_ofNat] at h0 h1
  split at h0 <;> split at h1 <;> omega

/-- `in_vocab` computed to 1 bounds every index. -/
theorem vocab_bound (x : (⟨S50x1024, .i32⟩ : BufTy).Contents (Elt F)) (e w u bi bh wl bl wo bo)
    (h : Cert.Pre_in_vocab.fn (F := F) x e w u bi bh wl bl wo bo = fun _ => 1#1) (j : S50x1024.Idx) : (x j : BitVec 32).toNat < 100000 := by
  have e1 := Host.reduce_andi_all (t := Cert.Pre_in_vocab.S_) _ _ _ _ (fun a => a.elim0) (congrFun h fun a => a.elim0) j
  obtain ⟨h0, h1⟩ := IntOp.andi_eq_one.1 e1
  exact word_in_vocab _ (IntOp.cmpi_sge.1 h0) (IntOp.cmpi_slt.1 h1)

variable (m : (ℓ : Loc nD τ sig) → Buf (Elt F) ℓ) (ρ : Dev nD → PrngReg)

/-- What no stretch writes and neither launch fills ends as it began. -/
theorem V5_kept (d : Dev nD) (r : Ref sig .tc) (hi : r ∉ opsIn_dst) (h1 : r ≠ main_v1) (hm : r ∉ opsMid_dst) (h2 : r ≠ main_v56) (ho : r ∉ opsOut_dst) :
    V5 m d r = m (d, Proc.devRef .tc r) := by
  unfold V5
  rw [StableHlo.after_of_writes_sub opsOut _ opsOut_writes ho]
  unfold V4 leavesV
  rw [Function.update_of_ne (fun e => h2 (Proc.devRef_injective _ e))]
  unfold V3
  rw [StableHlo.after_of_writes_sub opsMid _ opsMid_writes hm]
  unfold V2
  rw [Function.update_of_ne (fun e => h1 (Proc.devRef_injective _ e))]
  unfold V1
  rw [StableHlo.after_of_writes_sub opsIn _ opsIn_writes hi]
  rfl

/-- The arguments are kept. -/
theorem args_kept (d : Dev nD) (s : MemSt nD τ sig (Elt F)) (h : ∀ b ∈ Pipeline.ucRefs τ sig, s.mem (d, b) = V5 m d b) (r : Ref sig .tc)
    (hr : r ∈ [main_arg0, main_arg1, main_arg2, main_arg3, main_arg4, main_arg5, main_arg6, main_arg7, main_arg8, main_arg9]) :
    s.mem ((d.tc : Thread nD τ).loc r) = m ((d.tc : Thread nD τ).loc r) := by
  have hs : ∀ r ∈ [main_arg0, main_arg1, main_arg2, main_arg3, main_arg4, main_arg5, main_arg6, main_arg7, main_arg8, main_arg9],
      ¬ (Proc.devRef (τ := τ) .tc r).isScoped ∧ r ∉ opsIn_dst ∧ r ≠ main_v1 ∧ r ∉ opsMid_dst ∧ r ≠ main_v56 ∧ r ∉ opsOut_dst := by decide
  obtain ⟨h0, hi, h1, hm, h2, ho⟩ := hs r hr
  exact (h _ (Finset.mem_filter.mpr ⟨StableHlo.devRef_mem_tcRefs _, h0⟩)).trans (V5_kept m d r hi h1 hm h2 ho)

/-! ## The result -/

/-- The region's operands out of the arguments. -/
def operands (x : (⟨S50x1024, .i32⟩ : BufTy).Contents (Elt F)) (e : (⟨S100000x128, .f32⟩ : BufTy).Contents (Elt F))
    (w : (⟨S1024x128, .f32⟩ : BufTy).Contents (Elt F)) (u : (⟨S1024x256, .f32⟩ : BufTy).Contents (Elt F))
    (bi bh : (⟨S1024, .f32⟩ : BufTy).Contents (Elt F)) (wl : (⟨S256x256, .f32⟩ : BufTy).Contents (Elt F)) (bl : (⟨S256, .f32⟩ : BufTy).Contents (Elt F))
    (wo : (⟨S6x256, .f32⟩ : BufTy).Contents (Elt F)) (bo : (⟨S6, .f32⟩ : BufTy).Contents (Elt F)) : Ops F :=
  ⟨asSeq (gath e (shapeCast S51200 x shapeCasts_S50x1024_S51200)), firstRows (asSeq (gath e (shapeCast S51200 x shapeCasts_S50x1024_S51200))),
    packX w, packH u, packB bi bh, linW wl, linB bl, outW wo, outB bo⟩

/-- What the kernel returns, out of the arguments. -/
def kernelOut (x : (⟨S50x1024, .i32⟩ : BufTy).Contents (Elt F)) (e : (⟨S100000x128, .f32⟩ : BufTy).Contents (Elt F))
    (w : (⟨S1024x128, .f32⟩ : BufTy).Contents (Elt F)) (u : (⟨S1024x256, .f32⟩ : BufTy).Contents (Elt F))
    (bi bh : (⟨S1024, .f32⟩ : BufTy).Contents (Elt F)) (wl : (⟨S256x256, .f32⟩ : BufTy).Contents (Elt F)) (bl : (⟨S256, .f32⟩ : BufTy).Contents (Elt F))
    (wo : (⟨S6x256, .f32⟩ : BufTy).Contents (Elt F)) (bo : (⟨S6, .f32⟩ : BufTy).Contents (Elt F)) : (⟨S1024x6, .f32⟩ : BufTy).Contents (Elt F) :=
  extractStridedSlice S1024x6 ![0, 0] (operands x e w u bi bh wl bl wo bo).result slices_S1024x128_S1024x6_0_0

/-- An argument before the packing is the launch's. -/
theorem V2_arg (d : Dev nD) (r : Ref sig .tc) (hi : r ∉ opsIn_dst) (h1 : r ≠ main_v1) : V2 m d r = m (d, Proc.devRef .tc r) := by
  unfold V2
  rw [Function.update_of_ne (fun e => h1 (Proc.devRef_injective _ e))]
  unfold V1
  rw [StableHlo.after_of_writes_sub opsIn _ opsIn_writes hi]
  rfl

/-- The region is entered at those operands. -/
theorem V3_ops (d : Dev nD) : Ops.of (V3 m d) = operands (m (d, Proc.devRef .tc main_arg0)) (m (d, Proc.devRef .tc main_arg1)) (m (d, Proc.devRef .tc main_arg2))
    (m (d, Proc.devRef .tc main_arg3)) (m (d, Proc.devRef .tc main_arg4)) (m (d, Proc.devRef .tc main_arg5)) (m (d, Proc.devRef .tc main_arg6))
    (m (d, Proc.devRef .tc main_arg7)) (m (d, Proc.devRef .tc main_arg8)) (m (d, Proc.devRef .tc main_arg9)) := by
  have hg : V2 m d main_v1 = gath (m (d, Proc.devRef .tc main_arg1)) (shapeCast S51200 (m (d, Proc.devRef .tc main_arg0)) shapeCasts_S50x1024_S51200) := by
    unfold V2
    rw [Function.update_self]
    unfold V1
    rw [opsIn_v0, StableHlo.after_of_writes_sub opsIn _ opsIn_writes (by decide)]
    rfl
  unfold Ops.of V3 operands
  rw [mid_v2, mid_v55, mid_v15, mid_v28, mid_v42, mid_v43, mid_v45, mid_v49, mid_v54, hg]
  simp only [V2_arg m d main_arg2 (by decide) (by decide), V2_arg m d main_arg3 (by decide) (by decide), V2_arg m d main_arg4 (by decide) (by decide),
    V2_arg m d main_arg5 (by decide) (by decide), V2_arg m d main_arg6 (by decide) (by decide), V2_arg m d main_arg7 (by decide) (by decide),
    V2_arg m d main_arg8 (by decide) (by decide), V2_arg m d main_arg9 (by decide) (by decide)]

/-- The result is that function of the launch's arguments, -/
theorem V5_result (d : Dev nD) : V5 m d main_v57 = kernelOut (m (d, Proc.devRef .tc main_arg0)) (m (d, Proc.devRef .tc main_arg1)) (m (d, Proc.devRef .tc main_arg2))
    (m (d, Proc.devRef .tc main_arg3)) (m (d, Proc.devRef .tc main_arg4)) (m (d, Proc.devRef .tc main_arg5)) (m (d, Proc.devRef .tc main_arg6))
    (m (d, Proc.devRef .tc main_arg7)) (m (d, Proc.devRef .tc main_arg8)) (m (d, Proc.devRef .tc main_arg9)) := by
  unfold V5 kernelOut
  rw [opsOut_v57, ← V3_ops]
  unfold V4 leavesV
  rw [Function.update_self]

/-- so that a memory at the last contents holds it. -/
theorem result_at (d : Dev nD) (s : MemSt nD τ sig (Elt F)) (h : ∀ b ∈ Pipeline.ucRefs τ sig, s.mem (d, b) = V5 m d b) :
    s.mem ((d.tc : Thread nD τ).loc main_v57) = kernelOut (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)) (m ((d.tc : Thread nD τ).loc main_arg5)) (m ((d.tc : Thread nD τ).loc main_arg6))
    (m ((d.tc : Thread nD τ).loc main_arg7)) (m ((d.tc : Thread nD τ).loc main_arg8)) (m ((d.tc : Thread nD τ).loc main_arg9)) :=
  (h _ (Finset.mem_filter.mpr ⟨StableHlo.devRef_mem_tcRefs _, by decide⟩)).trans (V5_result m d)

/-! ## The claims -/

/-- The run, over any float values: every argument is kept, and every counter reads zero. -/
theorem frame_run [∀ e, Nonempty (Elt F e)] (hpre : PreOK m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run Cert.KernelIdeal.defs _ _).mono (fun r h => ⟨fun c => ⟨args_kept m c r.2 (h.1 c) main_arg0 (by decide), args_kept m c r.2 (h.1 c) main_arg1 (by decide), args_kept m c r.2 (h.1 c) main_arg2 (by decide), args_kept m c r.2 (h.1 c) main_arg3 (by decide), args_kept m c r.2 (h.1 c) main_arg4 (by decide), args_kept m c r.2 (h.1 c) main_arg5 (by decide), args_kept m c r.2 (h.1 c) main_arg6 (by decide), args_kept m c r.2 (h.1 c) main_arg7 (by decide), args_kept m c r.2 (h.1 c) main_arg8 (by decide), args_kept m c r.2 (h.1 c) main_arg9 (by decide)⟩, h.2⟩)
    (run_main m ρ hpre)

/-- The kernel over the reals runs to its end and keeps its arguments. -/
theorem frame_kernelIdeal : Cert.quiescent_KernelIdeal := fun m ρ hpre =>
  frame_run (F := Ideal) m ρ fun d j => vocab_bound _ _ _ _ _ _ _ _ _ _ (hpre d) j

/-- The kernel as printed for the machine and for the reals run the same bodies, -/
theorem defs_eq : @Cert.Kernel.defs F _ Cert.Kernel.Gen.facts = @Cert.KernelIdeal.defs F _ Cert.KernelIdeal.Gen.facts := by
  sl_kernel_rfl

/-- from the same programs. -/
theorem threads_eq : @Cert.Kernel.threads F _ Cert.Kernel.Gen.facts = @Cert.KernelIdeal.threads F _ Cert.KernelIdeal.Gen.facts := by
  sl_kernel_rfl

set_option maxHeartbeats 4000000 in
/-- So does the kernel over the machine's floats. -/
theorem frame_kernel : Cert.quiescent_Kernel := by
  intro m ρ hpre
  rw [defs_eq, threads_eq]
  exact frame_run (F := Bits) m ρ fun d j => vocab_bound _ _ _ _ _ _ _ _ _ _ (hpre d) j

end Cert.Proof.Run

end
-- ==== Proof.RefFrame.lean ====
/-
  The reference's frames: its run keeps every argument, and it has no counters.
-/
module

public import proofs.«01_k».proof.Defs
public import proofs.«01_k».proof.Proof.Gen.ReferenceIdeal
public import proofs.«01_k».proof.Proof.Gen.ReferenceIdeal.Run
public import proofs.«01_k».proof.Proof.Gen.Pre_in_vocab
public import Idealize.ShloMosaic.Lib.Quiescent

@[expose] public section

noncomputable section

namespace Cert.Proof.Ref

open Idealize.ShloMosaic Idealize.SL.Sem

/-- The reference's frame, from any memory. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Its frame again, under the index range. -/
theorem frame_reference_pre : Cert.quiescent_ReferenceIdeal_pre_in_vocab := fun m ρ _ => frame_reference m ρ trivial

end Cert.Proof.Ref

end
-- ==== Proof.Gate.lean ====
module

public import Idealize.ShloMosaic.PureOps.Ideal

@[expose] public section

/-! # Scalar facts about the gates of the recurrent cell over the extended reals -/

noncomputable section

namespace Cert.Proof.Gate

open Idealize.ShloMosaic

/-- One half, as an extended real. -/
abbrev half : EReal := ((1 / 2 : ℝ) : EReal)

/-- Halving distributes over every sum of two extended reals. -/
theorem half_add (a b : EReal) : half * (a + b) = half * a + half * b :=
  EReal.left_distrib_of_nonneg_of_ne_top (by exact_mod_cast (by norm_num : (0 : ℝ) ≤ 1 / 2)) (EReal.coe_ne_top _) a b

/-- Halving distributes over every finite sum of extended reals. -/
theorem half_sum {ι : Type} (s : Finset ι) (f : ι → EReal) : half * ∑ i ∈ s, f i = ∑ i ∈ s, half * f i := by
  classical
  induction s using Finset.induction_on with
  | empty => simp
  | insert i s hi ih => rw [Finset.sum_insert hi, Finset.sum_insert hi, half_add, ih]

/-- The hyperbolic tangent of an extended real is a real number. -/
theorem tanh_real (z : EReal) : ∃ r : ℝ, Ideal.tanh z = (r : EReal) := by
  induction z with
  | bot => exact ⟨-1, by simp⟩
  | top => exact ⟨1, by simp⟩
  | coe r => exact ⟨Real.tanh r, Ideal.tanh_coe r⟩

/-- The logistic function of an extended real is a real number. -/
theorem logistic_real (z : EReal) : ∃ r : ℝ, Ideal.logistic z = (r : EReal) := by
  induction z with
  | bot => exact ⟨0, by simp⟩
  | top => exact ⟨1, by simp⟩
  | coe r => exact ⟨_, Ideal.logistic_coe r⟩

/-- The logistic function is half of one plus the hyperbolic tangent of half the argument, at the
infinities too. -/
theorem logistic_eq (z : EReal) : Ideal.logistic z = half * (Ideal.tanh (half * z) + 1) := by
  have hpos : (0 : ℝ) < 1 / 2 := by norm_num
  induction z with
  | bot =>
    rw [EReal.coe_mul_bot_of_pos hpos, Ideal.tanh_bot, Ideal.logistic_bot]
    have : (-1 + 1 : EReal) = ((-1 + 1 : ℝ) : EReal) := by
      rw [EReal.coe_add, EReal.coe_neg, EReal.coe_one]
    rw [this]; simp
  | top =>
    rw [EReal.coe_mul_top_of_pos hpos, Ideal.tanh_top, Ideal.logistic_top]
    have : (1 + 1 : EReal) = ((2 : ℝ) : EReal) := by norm_cast
    rw [this, ← EReal.coe_mul]; norm_num
  | coe r =>
    rw [Ideal.logistic_coe, ← EReal.coe_mul, Ideal.tanh_coe]
    have h1 : (1 : EReal) = ((1 : ℝ) : EReal) := rfl
    rw [h1, ← EReal.coe_add, ← EReal.coe_mul]
    congr 1
    rw [Real.tanh_eq_sinh_div_cosh, Real.sinh_eq, Real.cosh_eq]
    have e1 : Real.exp (1 / 2 * r) * Real.exp (-(1 / 2 * r)) = 1 := by
      rw [← Real.exp_add]; simp
    have e2 : Real.exp (-r) = Real.exp (-(1 / 2 * r)) * Real.exp (-(1 / 2 * r)) := by
      rw [← Real.exp_add]; congr 1; ring
    have p1 := Real.exp_pos (1 / 2 * r)
    have p2 := Real.exp_pos (-(1 / 2 * r))
    rw [e2]
    generalize Real.exp (1 / 2 * r) = a at *
    generalize Real.exp (-(1 / 2 * r)) = b at *
    have : 1 + b * b = b * (a + b) := by nlinarith
    rw [this]
    field_simp
    nlinarith

/-- Input, forget and candidate combined in the shared form (half of `f·c + c + i·g + g`, with the
gates still as hyperbolic tangents) give the cell's new content, when the old one is finite. -/
theorem cell_eq (zi zf g c : EReal) (hg : ∃ r : ℝ, g = (r : EReal)) (hc : ∃ r : ℝ, c = (r : EReal)) :
    half * (((Ideal.tanh (half * zf) * c + c) + Ideal.tanh (half * zi) * g) + g)
      = Ideal.logistic zf * c + Ideal.logistic zi * g := by
  rw [logistic_eq, logistic_eq]
  obtain ⟨f, hf⟩ := tanh_real (half * zf)
  obtain ⟨i, hi⟩ := tanh_real (half * zi)
  obtain ⟨g', rfl⟩ := hg
  obtain ⟨c', rfl⟩ := hc
  rw [hf, hi]
  have h1 : (1 : EReal) = ((1 : ℝ) : EReal) := rfl
  rw [h1]
  simp only [← EReal.coe_add, ← EReal.coe_mul]
  congr 1
  ring

/-- The cell's new content is finite when the old one and the candidate are. -/
theorem cell_real (zi zf g c : EReal) (hg : ∃ r : ℝ, g = (r : EReal)) (hc : ∃ r : ℝ, c = (r : EReal)) :
    ∃ r : ℝ, Ideal.logistic zf * c + Ideal.logistic zi * g = (r : EReal) := by
  obtain ⟨f, hf⟩ := logistic_real zf
  obtain ⟨i, hi⟩ := logistic_real zi
  obtain ⟨g', rfl⟩ := hg
  obtain ⟨c', rfl⟩ := hc
  exact ⟨f * c' + i * g', by rw [hf, hi]; simp only [← EReal.coe_add, ← EReal.coe_mul]⟩

end Cert.Proof.Gate

end
-- ==== Proof.Pack.lean ====
/-
  The operands that the host packs for the TensorCore region, read at an entry over the extended reals.
-/
module

public import proofs.«01_k».proof.Proof.Frames
public import proofs.«01_k».proof.Proof.Gate
public import Idealize.ShloMosaic.Lib.Pointwise
public import Idealize.ShloMosaic.Lib.Routing.OpsSet
public import Idealize.ShloMosaic.Lib.Routing.OpsPair

@[expose] public section

set_option maxRecDepth 16384

noncomputable section

namespace Cert.Proof.Run

open Cert.KernelIdeal Cert.KernelIdeal.Gen Cert.Proof.Gate
open Idealize.ShloMosaic

/-- Column `j` of the `g`-th of four blocks of 256 columns. -/
def col (g : Fin 4) (j : Fin 256) : Fin 1024 := ⟨256 * g.val + j.val, by omega⟩

/-- Which gate of the reference (in the order i, f, g, o) the packed block `g` (in the order i, f, o, g) holds. -/
def slot : Fin 4 → Fin 4 := ![0, 1, 3, 2]

/-- By how much the packed block `g` is scaled. -/
def scale : Fin 4 → EReal := ![half, half, half, 1]

/-- The word 0x3F000000 is one half. -/
theorem ofBits_half : Ideal.ofBits .f32 0x3F000000#32 = half := by
  simp [Ideal.ofBits, Ideal.ieee, half]
  rw [← EReal.coe_mul]
  norm_num

/-- Four blocks of 256 entries of `f`, the first two and the last of them halved and moved to the front. -/
def packed (f : Fin 1024 → EReal) (q : Fin 1024) : EReal :=
  if h : q.val < 256 then half * f ⟨q.val, by omega⟩
  else if h : q.val - 256 < 256 then half * f ⟨256 + (q.val - 256), by omega⟩
  else if h : q.val - 256 - 256 < 256 then half * f ⟨768 + (q.val - 256 - 256), by omega⟩
  else f ⟨512 + (q.val - 256 - 256 - 256), by omega⟩

/-- An entry of a packed block is the scaled entry of the gate that the block holds. -/
theorem packed_col (f : Fin 1024 → EReal) (g : Fin 4) (j : Fin 256) : packed f (col g j) = scale g * f (col (slot g) j) := by
  have hv : ∀ g : Fin 4, (col g j).val = 256 * g.val + j.val := fun _ => rfl
  have h0 := hv 0
  have h1 := hv 1
  have h2 := hv 2
  have h3 := hv 3
  simp only [Fin.isValue, Fin.val_zero, Fin.val_one, Fin.val_two, show (3 : Fin 4).val = 3 from rfl] at h0 h1 h2 h3
  unfold packed
  match g with
  | 0 =>
    rw [dif_pos (by omega)]
    rfl
  | 1 =>
    rw [dif_neg (by omega), dif_pos (by omega)]
    exact congrArg (fun q => half * f q) (Fin.ext (show 256 + ((col 1 j).val - 256) = (col 1 j).val by omega))
  | 2 =>
    rw [dif_neg (by omega), dif_neg (by omega), dif_pos (by omega)]
    exact congrArg (fun q => half * f q) (Fin.ext (show 768 + ((col 2 j).val - 256 - 256) = (col 3 j).val by omega))
  | 3 =>
    rw [dif_neg (by omega), dif_neg (by omega), dif_neg (by omega)]
    exact (congrArg f (Fin.ext (show 512 + ((col 3 j).val - 256 - 256 - 256) = (col 2 j).val by omega))).trans (one_mul _).symm

/-- An entry of the packed input weights. -/
theorem packX_at (w : FVec Ideal S1024x128 .f32) (k : Fin 128) (q : Fin 1024) :
    packX (F := Ideal) w (ix2 k q) = packed (fun p => w (ix2 p k)) q := by
  pointwise [packX, packed, ofBits_half]

/-- An entry of the packed recurrent weights. -/
theorem packH_at (w : FVec Ideal S1024x256 .f32) (k : Fin 256) (q : Fin 1024) :
    packH (F := Ideal) w (ix2 k q) = packed (fun p => w (ix2 p k)) q := by
  pointwise [packH, packed, ofBits_half]

/-- An entry of the packed biases. -/
theorem packB_at (b b' : FVec Ideal S1024 .f32) (r : Fin 8) (q : Fin 1024) :
    packB (F := Ideal) b b' (ix2 r q) = packed (fun p => b (ix1 p) + b' (ix1 p)) q := by
  pointwise [packB, packed, ofBits_half]

/-- An entry of the first readout layer's weights. -/
theorem linW_at (w : FVec Ideal S256x256 .f32) (k q : Fin 256) : linW (F := Ideal) w (ix2 k q) = w (ix2 q k) := by
  pointwise [linW]

/-- An entry of the first readout layer's bias. -/
theorem linB_at (b : FVec Ideal S256 .f32) (r : Fin 8) (q : Fin 256) : linB (F := Ideal) b (ix2 r q) = b (ix1 q) := by
  pointwise [linB]

/-- Where an entry of the second readout layer's weights lands in the padded array. -/
theorem outW_lands (k : S256x6.Idx) (ι : S256x128.Idx) :
    scatter_S256x128_S1_S256x6_01_n_1_0.resultIdx? k (broadcastInDim S1 ![] bcast_S_S1 (constantI S_ 32 0#32)) = some ι
      ↔ (k 0).val = (ι 0).val ∧ (k 1).val = (ι 1).val := by
  rw [Routing.resultIdx?_eq_some]
  have h0 : scatter_S256x128_S1_S256x6_01_n_1_0.start k (broadcastInDim S1 ![] bcast_S_S1 (constantI S_ 32 0#32)) 0 = 0 := rfl
  have h1 : scatter_S256x128_S1_S256x6_01_n_1_0.start k (broadcastInDim S1 ![] bcast_S_S1 (constantI S_ 32 0#32)) 1 = 0 := rfl
  have w0 : scatter_S256x128_S1_S256x6_01_n_1_0.window k 0 = (k 0).val := rfl
  have w1 : scatter_S256x128_S1_S256x6_01_n_1_0.window k 1 = (k 1).val := rfl
  constructor
  · intro h
    have a0 := h 0
    have a1 := h 1
    rw [h0, w0] at a0
    rw [h1, w1] at a1
    exact ⟨by omega, by omega⟩
  · intro h a
    match a with
    | 0 => rw [h0, w0, h.1, zero_add]
    | 1 => rw [h1, w1, h.2, zero_add]

/-- An entry of the second readout layer's padded weights in one of the six columns that are kept. -/
theorem outW_at (w : FVec Ideal S6x256 .f32) (k : Fin 256) (o : Fin 6) :
    outW (F := Ideal) w (ix2 k ⟨o.val, by omega⟩) = w (ix2 o k) := by
  unfold outW
  refine Routing.scatter_set_hit _ _ _ _ _ _ (fun p hp => ?_) (ix2 k o) ((outW_lands _ _).2 ⟨rfl, rfl⟩)
  obtain ⟨e0, e1⟩ := (outW_lands _ _).1 hp
  obtain ⟨p0, p1, rfl⟩ : ∃ (a : Fin 256) (b : Fin 6), p = ix2 a b := ⟨p 0, p 1, eq_ix2 p⟩
  obtain rfl : p0 = k := Fin.ext e0
  obtain rfl : p1 = o := Fin.ext e1
  pointwise

/-- Where an entry of the second readout layer's bias lands in the padded one. -/
theorem outB_lands (k : S6.Idx) (ι : S128.Idx) :
    scatter_S128_S1_S6_0_n_0_0.resultIdx? k (broadcastInDim S1 ![] bcast_S_S1 (constantI S_ 32 0#32)) = some ι ↔ (k 0).val = (ι 0).val := by
  rw [Routing.resultIdx?_eq_some]
  have h0 : scatter_S128_S1_S6_0_n_0_0.start k (broadcastInDim S1 ![] bcast_S_S1 (constantI S_ 32 0#32)) 0 = 0 := rfl
  have w0 : scatter_S128_S1_S6_0_n_0_0.window k 0 = (k 0).val := rfl
  constructor
  · intro h
    have a0 := h 0
    rw [h0, w0] at a0
    omega
  · intro h a
    match a with
    | 0 => rw [h0, w0, h, zero_add]

/-- An entry of the second readout layer's padded bias in one of the six columns that are kept. -/
theorem outB_at (b : FVec Ideal S6 .f32) (r : Fin 8) (o : Fin 6) : outB (F := Ideal) b (ix2 r ⟨o.val, by omega⟩) = b (ix1 o) := by
  unfold outB
  pointwise
  refine Routing.scatter_set_hit _ _ _ _ _ _ (fun p hp => ?_) (ix1 o) ((outB_lands _ _).2 rfl)
  have e0 := (outB_lands _ _).1 hp
  obtain ⟨p0, rfl⟩ : ∃ a : Fin 6, p = ix1 a := ⟨p 0, eq_ix1 p⟩
  obtain rfl : p0 = o := Fin.ext e0
  rfl

/-- An entry of the embedded sequence: the gathered row of its token. -/
theorem asSeq_at (e : FVec Ideal S100000x128 .f32) (x : IVec S50x1024 32) (s : Fin 50) (b : Fin 1024) (k : Fin 128)
    (hx : (x (ix2 s b)).toNat < 100000) :
    asSeq (F := Ideal) (gath (F := Ideal) e (shapeCast S51200 x shapeCasts_S50x1024_S51200)) (ix3 s b k) = e (ix2 ⟨(x (ix2 s b)).toNat, hx⟩ k) := by
  pointwise [asSeq, gath]
  have hi : (ix2 ⟨(s.val * 1024 + b.val) / 1024, by omega⟩ ⟨(s.val * 1024 + b.val) % 1024, by omega⟩ : S50x1024.Idx) = ix2 s b :=
    (ix2_inj ..).2 ⟨Fin.ext (show (s.val * 1024 + b.val) / 1024 = s.val by omega), Fin.ext (show (s.val * 1024 + b.val) % 1024 = b.val by omega)⟩
  refine congrArg e (funext fun a => ?_)
  match a with
  | 0 =>
    refine Fin.ext ?_
    show (x (ix2 _ _)).toNat % 100000 = (x (ix2 s b)).toNat
    rw [hi]
    exact Nat.mod_eq_of_lt hx
  | 1 => rfl

end Cert.Proof.Run

end
-- ==== Proof.Cell.lean ====
/-
  The recurrence in plain terms over the extended reals, and one step of the TensorCore region in those terms.
-/
module

public import proofs.«01_k».proof.Proof.Pack

@[expose] public section

set_option maxRecDepth 16384

noncomputable section

namespace Cert.Proof.Run

open Cert.KernelIdeal Cert.KernelIdeal.Gen Cert.Proof.Gate
open Idealize.ShloMosaic

/-! ## The recurrence -/

/-- The arguments of the gates: the step's input and the hidden state through their weights, and the two biases. -/
def gateArg (x : Fin 1024 → Fin 128 → EReal) (h : FVec Ideal S1024x256 .f32) (w : FVec Ideal S1024x128 .f32) (u : FVec Ideal S1024x256 .f32)
    (bi bh : FVec Ideal S1024 .f32) (r q : Fin 1024) : EReal :=
  (((∑ k : Fin 128, x r k * w (ix2 q k)) + bi (ix1 q)) + ∑ k : Fin 256, h (ix2 r k) * u (ix2 q k)) + bh (ix1 q)

/-- The cell's new content, of the gates' arguments (in the order input, forget, candidate, output) and the old content. -/
def cellNext (z : Fin 1024 → Fin 1024 → EReal) (c : FVec Ideal S1024x256 .f32) (r : Fin 1024) (j : Fin 256) : EReal :=
  Ideal.logistic (z r (col 1 j)) * c (ix2 r j) + Ideal.logistic (z r (col 0 j)) * Ideal.tanh (z r (col 2 j))

/-- The new hidden state. -/
def hidNext (z : Fin 1024 → Fin 1024 → EReal) (c : FVec Ideal S1024x256 .f32) (r : Fin 1024) (j : Fin 256) : EReal :=
  Ideal.logistic (z r (col 3 j)) * Ideal.tanh (cellNext z c r j)

/-- The two readout layers over a hidden state. -/
def readout (h : FVec Ideal S1024x256 .f32) (wl : FVec Ideal S256x256 .f32) (bl : FVec Ideal S256 .f32) (wo : FVec Ideal S6x256 .f32)
    (bo : FVec Ideal S6 .f32) (r : Fin 1024) (o : Fin 6) : EReal :=
  (∑ q : Fin 256, ((∑ k : Fin 256, h (ix2 r k) * wl (ix2 q k)) + bl (ix1 q)) * wo (ix2 o q)) + bo (ix1 o)

/-! ## The scaling of the packed blocks -/

/-- Scaling distributes over a sum of two. -/
theorem scale_add (g : Fin 4) (a b : EReal) : scale g * (a + b) = scale g * a + scale g * b :=
  match g with
  | 0 => half_add a b
  | 1 => half_add a b
  | 2 => half_add a b
  | 3 => show 1 * (a + b) = 1 * a + 1 * b by simp only [one_mul]

/-- Scaling distributes over a finite sum. -/
theorem scale_sum {n : ℕ} (g : Fin 4) (f : Fin n → EReal) : scale g * ∑ k, f k = ∑ k, scale g * f k :=
  match g with
  | 0 => half_sum _ f
  | 1 => half_sum _ f
  | 2 => half_sum _ f
  | 3 => show 1 * ∑ k, f k = ∑ k, 1 * f k by simp only [one_mul]

/-- A contraction with scaled weights is the scaled contraction. -/
theorem scaled_dot {n : ℕ} (g : Fin 4) (a b : Fin n → EReal) : ∑ k, a k * (scale g * b k) = scale g * ∑ k, a k * b k := by
  rw [scale_sum]
  exact Finset.sum_congr rfl fun k _ => mul_left_comm _ _ _

/-! ## One step of the region -/

/-- The region's projection of a step's input. -/
theorem pay2_at (x : FVec Ideal S1x1024x128 .f32) (wx : FVec Ideal S128x1024 .bf16) (r q : Fin 1024) :
    k1_pay2 (F := Ideal) x wx (ix2 r q) = ∑ k : Fin 128, x (ix3 0 r k) * wx (ix2 k q) := by
  pointwise [k1_pay2]

/-- The same at the start. -/
theorem pay6_at (x : FVec Ideal S1x1024x128 .f32) (wx : FVec Ideal S128x1024 .bf16) (r q : Fin 1024) :
    k1_pay6 (F := Ideal) x wx (ix2 r q) = ∑ k : Fin 128, x (ix3 0 r k) * wx (ix2 k q) := by
  pointwise [k1_pay6]

/-- The row of eight equal rows that the region reads. -/
theorem row8_at {n : ℕ} (b : FVec Ideal ⟨2, ![8, n]⟩ .f32) (q : Fin n) : row8 (F := Ideal) (e := .f32) b (ix2 0 q) = b (ix2 0 q) :=
  congrArg b (funext fun a => match a with
    | 0 => rfl
    | 1 => rfl)

/-- The region's gate arguments. -/
theorem pay7_at (x : FVec Ideal S1024x1024 .f32) (h : FVec Ideal S1024x256 .f32) (wh : FVec Ideal S256x1024 .bf16) (b : FVec Ideal S8x1024 .f32)
    (r q : Fin 1024) :
    k1_pay7 (F := Ideal) x h wh (row8 b) (ix2 r q) = (x (ix2 r q) + ∑ k : Fin 256, h (ix2 r k) * wh (ix2 k q)) + b (ix2 0 q) := by
  pointwise [k1_pay7]
  rw [row8_at]

/-- The region's new cell content. -/
theorem pay9_at (x : FVec Ideal S1024x1024 .f32) (h : FVec Ideal S1024x256 .f32) (wh : FVec Ideal S256x1024 .bf16) (b : FVec Ideal S1x1024 .f32)
    (c : FVec Ideal S1024x256 .f32) (r : Fin 1024) (j : Fin 256) :
    k1_pay9 (F := Ideal) x h wh b c (ix2 r j) =
      half * (((Ideal.tanh (k1_pay7 (F := Ideal) x h wh b (ix2 r (col 1 j))) * c (ix2 r j) + c (ix2 r j))
        + Ideal.tanh (k1_pay7 (F := Ideal) x h wh b (ix2 r (col 0 j))) * Ideal.tanh (k1_pay7 (F := Ideal) x h wh b (ix2 r (col 3 j))))
        + Ideal.tanh (k1_pay7 (F := Ideal) x h wh b (ix2 r (col 3 j)))) := by
  pointwise [k1_pay9, k1_pay8, ofBits_half, col]

/-- The region's new hidden state. -/
theorem pay10_at (x : FVec Ideal S1024x1024 .f32) (h : FVec Ideal S1024x256 .f32) (wh : FVec Ideal S256x1024 .bf16) (b : FVec Ideal S1x1024 .f32)
    (c : FVec Ideal S1024x256 .f32) (r : Fin 1024) (j : Fin 256) :
    k1_pay10 (F := Ideal) x h wh b c (ix2 r j) =
      half * (Ideal.tanh (k1_pay7 (F := Ideal) x h wh b (ix2 r (col 2 j))) + 1) * Ideal.tanh (k1_pay9 (F := Ideal) x h wh b c (ix2 r j)) := by
  pointwise [k1_pay10, k1_pay8, ofBits_half, col]

/-- Over the packed weights, with the step's input projected, the region's gate arguments are the recurrence's, scaled
    and moved with their blocks. -/
theorem pay7_gate (xs : Fin 1024 → Fin 128 → EReal) (x : FVec Ideal S1024x1024 .f32) (h : FVec Ideal S1024x256 .f32) (w : FVec Ideal S1024x128 .f32)
    (u : FVec Ideal S1024x256 .f32) (bi bh : FVec Ideal S1024 .f32)
    (hx : ∀ r q : Fin 1024, x (ix2 r q) = ∑ k : Fin 128, xs r k * packX (F := Ideal) w (ix2 k q)) (r : Fin 1024) (g : Fin 4) (j : Fin 256) :
    k1_pay7 (F := Ideal) x h (packH (F := Ideal) u) (row8 (packB (F := Ideal) bi bh)) (ix2 r (col g j))
      = scale g * gateArg xs h w u bi bh r (col (slot g) j) := by
  rw [pay7_at, hx, packB_at, packed_col]
  simp only [packX_at, packH_at, packed_col]
  rw [scaled_dot, scaled_dot, ← scale_add, ← scale_add]
  unfold gateArg
  refine congrArg (scale g * ·) ?_
  abel

/-- The region's step computes the recurrence's new cell content, where the old one is finite. -/
theorem pay9_cell (xs : Fin 1024 → Fin 128 → EReal) (x : FVec Ideal S1024x1024 .f32) (h c : FVec Ideal S1024x256 .f32) (w : FVec Ideal S1024x128 .f32)
    (u : FVec Ideal S1024x256 .f32) (bi bh : FVec Ideal S1024 .f32)
    (hx : ∀ r q : Fin 1024, x (ix2 r q) = ∑ k : Fin 128, xs r k * packX (F := Ideal) w (ix2 k q))
    (r : Fin 1024) (j : Fin 256) (hc : ∃ y : ℝ, c (ix2 r j) = (y : EReal)) :
    k1_pay9 (F := Ideal) x h (packH (F := Ideal) u) (row8 (packB (F := Ideal) bi bh)) c (ix2 r j)
      = cellNext (gateArg xs h w u bi bh) c r j := by
  rw [pay9_at, pay7_gate xs x h w u bi bh hx r 0, pay7_gate xs x h w u bi bh hx r 1, pay7_gate xs x h w u bi bh hx r 3]
  have e3 : scale 3 * gateArg xs h w u bi bh r (col (slot 3) j) = gateArg xs h w u bi bh r (col 2 j) := one_mul _
  rw [e3]
  exact cell_eq _ _ _ _ (tanh_real _) hc

/-- The region's step computes the recurrence's new hidden state. -/
theorem pay10_hid (xs : Fin 1024 → Fin 128 → EReal) (x : FVec Ideal S1024x1024 .f32) (h c : FVec Ideal S1024x256 .f32) (w : FVec Ideal S1024x128 .f32)
    (u : FVec Ideal S1024x256 .f32) (bi bh : FVec Ideal S1024 .f32)
    (hx : ∀ r q : Fin 1024, x (ix2 r q) = ∑ k : Fin 128, xs r k * packX (F := Ideal) w (ix2 k q))
    (r : Fin 1024) (j : Fin 256) (hc : ∃ y : ℝ, c (ix2 r j) = (y : EReal)) :
    k1_pay10 (F := Ideal) x h (packH (F := Ideal) u) (row8 (packB (F := Ideal) bi bh)) c (ix2 r j)
      = hidNext (gateArg xs h w u bi bh) c r j := by
  rw [pay10_at, pay9_cell xs x h c w u bi bh hx r j hc, pay7_gate xs x h w u bi bh hx r 2]
  exact congrArg (· * _) (logistic_eq _).symm

/-- The new cell content is finite where the old one is. -/
theorem cellNext_real (z : Fin 1024 → Fin 1024 → EReal) (c : FVec Ideal S1024x256 .f32) (r : Fin 1024) (j : Fin 256)
    (hc : ∃ y : ℝ, c (ix2 r j) = (y : EReal)) : ∃ y : ℝ, cellNext z c r j = (y : EReal) :=
  cell_real _ _ _ _ (tanh_real _) hc

/-- The region's readout in a column that is kept. -/
theorem pay3_readout (h : FVec Ideal S1024x256 .f32) (wl : FVec Ideal S256x256 .f32) (bl : FVec Ideal S256 .f32) (wo : FVec Ideal S6x256 .f32)
    (bo : FVec Ideal S6 .f32) (r : Fin 1024) (o : Fin 6) :
    k1_pay3 (F := Ideal) h (linW (F := Ideal) wl) (row8 (linB (F := Ideal) bl)) (outW (F := Ideal) wo) (row8 (outB (F := Ideal) bo)) (ix2 r ⟨o.val, by omega⟩)
      = readout h wl bl wo bo r o := by
  have e1 : ∀ q : Fin 256, row8 (F := Ideal) (e := .f32) (linB (F := Ideal) bl) (ix2 0 q) = bl (ix1 q) := fun q =>
    (row8_at _ q).trans (linB_at bl 0 q)
  have e2 : row8 (F := Ideal) (e := .f32) (outB (F := Ideal) bo) (ix2 0 ⟨o.val, by omega⟩) = bo (ix1 o) :=
    (row8_at _ _).trans (outB_at bo 0 o)
  pointwise [k1_pay3]
  simp only [linW_at, outW_at]
  refine congrArg₂ (· + ·) (Finset.sum_congr rfl fun q _ => congrArg (fun y => (_ + y) * _) (e1 q)) e2

end Cert.Proof.Run

end
-- ==== Proof.RefCell.lean ====
/-
  The reference's loop in the plain terms of the recurrence: what its carried buffers hold after a step, and what it
  returns.
-/
module

public import proofs.«01_k».proof.Proof.Cell
public import proofs.«01_k».proof.Proof.Gen.ReferenceIdeal.Run

@[expose] public section

set_option maxRecDepth 16384

noncomputable section

namespace Cert.Proof.Ref

open Cert.ReferenceIdeal Cert.ReferenceIdeal.Gen Cert.ReferenceIdeal.Value Cert.Proof.Gate
open Cert.Proof.Run (col gateArg cellNext hidNext readout)
open Idealize.ShloMosaic Idealize.ShloMosaic.TcCoe

/-- The reference's gate arguments over the arrays that it reads. -/
def gatesOf (s : FVec Ideal S50x1024x128 .f32) (n : IVec S_ 32) (w : FVec Ideal S1024x128 .f32) (u : FVec Ideal S1024x256 .f32)
    (bi bh : FVec Ideal S1024 .f32) (h : FVec Ideal S1024x256 .f32) : FVec Ideal S1024x1024 .f32 :=
  addf (addf (addf
    (Host.dotGeneral dot_S1024x128_S128x1024_S1024x1024_1_0_0_1_n_n none
      (shapeCast S1024x128 (Host.dynamicSlice S1x1024x128 s
        (fun k => ((![n, constantI S_ 32 0#32, constantI S_ 32 0#32] : Fin 3 → IVec S_ 32) k (Shape.Idx.first h_S_)).toInt)
        sliceFits_S50x1024x128_S1x1024x128) shapeCasts_S1x1024x128_S1024x128)
      (transpose S128x1024 [1, 0] w transposes_S1024x128_S128x1024_1_0))
    (broadcastInDim S1024x1024 ![0, 1] bcast_S1x1024_S1024x1024_0_1 (broadcastInDim S1x1024 ![1] bcast_S1024_S1x1024_1 bi)))
    (Host.dotGeneral dot_S1024x256_S256x1024_S1024x1024_1_0_0_1_n_n none h (transpose S256x1024 [1, 0] u transposes_S1024x256_S256x1024_1_0)))
    (broadcastInDim S1024x1024 ![0, 1] bcast_S1x1024_S1024x1024_0_1 (broadcastInDim S1x1024 ![1] bcast_S1024_S1x1024_1 bh))

/-- The logistic function as the reference spells it, on the block of 256 columns from `o`. -/
def sigm (z : FVec Ideal S1024x256 .f32) : FVec Ideal S1024x256 .f32 :=
  Host.divf (broadcastInDim S1024x256 ![] bcast_S_S1024x256 (constant S_ .f32 0x3F800000#32))
    (addf (broadcastInDim S1024x256 ![] bcast_S_S1024x256 (constant S_ .f32 0x3F800000#32)) (Host.exp (Host.negf z)))

/-- The reference's new cell content over the gates' arguments and the old content. -/
def cellOf (z : FVec Ideal S1024x1024 .f32) (c : FVec Ideal S1024x256 .f32) : FVec Ideal S1024x256 .f32 :=
  addf (mulf (sigm (extractStridedSlice S1024x256 ![0, 256] z slices_S1024x1024_S1024x256_0_256)) c)
    (mulf (sigm (extractStridedSlice S1024x256 ![0, 0] z slices_S1024x1024_S1024x256_0_0))
      (Host.tanh (extractStridedSlice S1024x256 ![0, 512] z slices_S1024x1024_S1024x256_0_512)))

/-- The reference's new hidden state. -/
def hidOf (z : FVec Ideal S1024x1024 .f32) (c : FVec Ideal S1024x256 .f32) : FVec Ideal S1024x256 .f32 :=
  mulf (sigm (extractStridedSlice S1024x256 ![0, 768] z slices_S1024x1024_S1024x256_0_768)) (Host.tanh (cellOf z c))

/-- The reference's two readout layers. -/
def outOf (h : FVec Ideal S1024x256 .f32) (wl : FVec Ideal S256x256 .f32) (bl : FVec Ideal S256 .f32) (wo : FVec Ideal S6x256 .f32)
    (bo : FVec Ideal S6 .f32) : FVec Ideal S1024x6 .f32 :=
  addf (Host.dotGeneral dot_S1024x256_S256x6_S1024x6_1_0_0_1_n_n none
      (addf (Host.dotGeneral dot_S1024x256_S256x256_S1024x256_1_0_0_1_n_n none h (transpose S256x256 [1, 0] wl transposes_S256x256_S256x256_1_0))
        (broadcastInDim S1024x256 ![0, 1] bcast_S1x256_S1024x256_0_1 (broadcastInDim S1x256 ![1] bcast_S256_S1x256_1 bl)))
      (transpose S256x6 [1, 0] wo transposes_S6x256_S256x6_1_0))
    (broadcastInDim S1024x6 ![0, 1] bcast_S1x6_S1024x6_0_1 (broadcastInDim S1x6 ![1] bcast_S6_S1x6_1 bo))

/-- The step's gate arguments are those, of the carried buffers. -/
theorem gates_eq (V : Valuation τ sig (Elt Ideal)) :
    res_main_while0b_v25 V = gatesOf (V (Proc.devRef .tc main_v3_0)) (V (Proc.devRef .tc main_v3_5)) (V (Proc.devRef .tc main_v3_1))
      (V (Proc.devRef .tc main_v3_3)) (V (Proc.devRef .tc main_v3_2)) (V (Proc.devRef .tc main_v3_4)) (V (Proc.devRef .tc main_v3_6)) := rfl

/-- The step's cell content. -/
theorem cell_eq (V : Valuation τ sig (Elt Ideal)) :
    step_main_v3_7 V = cellOf (res_main_while0b_v25 V) (V (Proc.devRef .tc main_v3_7)) := rfl

/-- The step's hidden state. -/
theorem hid_eq (V : Valuation τ sig (Elt Ideal)) :
    step_main_v3_6 V = hidOf (res_main_while0b_v25 V) (V (Proc.devRef .tc main_v3_7)) := rfl

/-- What is returned. -/
theorem out_eq (V : Valuation τ sig (Elt Ideal)) :
    out_main_v13 V = outOf (V (Proc.devRef .tc main_v3_6)) (V (Proc.devRef .tc main_arg6)) (V (Proc.devRef .tc main_arg7))
      (V (Proc.devRef .tc main_arg8)) (V (Proc.devRef .tc main_arg9)) := rfl

/-- The gate arguments at an entry, at step `t`. -/
theorem gatesOf_at (s : FVec Ideal S50x1024x128 .f32) (t : Fin 50) (n : IVec S_ 32) (hn : ∀ i, (n i).toInt = t.val) (w : FVec Ideal S1024x128 .f32)
    (u : FVec Ideal S1024x256 .f32) (bi bh : FVec Ideal S1024 .f32) (h : FVec Ideal S1024x256 .f32) (r q : Fin 1024) :
    gatesOf s n w u bi bh h (ix2 r q) = gateArg (fun r k => s (ix3 t r k)) h w u bi bh r q := by
  have e0 : Host.clampedStart S50x1024x128 S1x1024x128 sliceFits_S50x1024x128_S1x1024x128.1
      (fun k => ((![n, constantI S_ 32 0#32, constantI S_ 32 0#32] : Fin 3 → IVec S_ 32) k (Shape.Idx.first h_S_)).toInt) 0 = t.val :=
    Host.clampedStart_of_le _ _ 0 t.val (hn _) (show t.val + 1 ≤ 50 by omega)
  have e1 : Host.clampedStart S50x1024x128 S1x1024x128 sliceFits_S50x1024x128_S1x1024x128.1
      (fun k => ((![n, constantI S_ 32 0#32, constantI S_ 32 0#32] : Fin 3 → IVec S_ 32) k (Shape.Idx.first h_S_)).toInt) 1 = 0 := rfl
  have e2 : Host.clampedStart S50x1024x128 S1x1024x128 sliceFits_S50x1024x128_S1x1024x128.1
      (fun k => ((![n, constantI S_ 32 0#32, constantI S_ 32 0#32] : Fin 3 → IVec S_ 32) k (Shape.Idx.first h_S_)).toInt) 2 = 0 := rfl
  pointwise [gatesOf, gateArg]
  simp only [e0, e1, e2, Nat.zero_add, Fin.eta]

/-- The cell content at an entry. -/
theorem cellOf_at (z : FVec Ideal S1024x1024 .f32) (c : FVec Ideal S1024x256 .f32) (r : Fin 1024) (j : Fin 256) :
    cellOf z c (ix2 r j) = cellNext (fun r q => z (ix2 r q)) c r j := by
  have e0 : (⟨j.val, by omega⟩ : Fin 1024) = col 0 j := Fin.ext (Nat.zero_add _).symm
  pointwise [cellOf, sigm, cellNext]
  rw [e0]
  rfl

/-- The hidden state at an entry. -/
theorem hidOf_at (z : FVec Ideal S1024x1024 .f32) (c : FVec Ideal S1024x256 .f32) (r : Fin 1024) (j : Fin 256) :
    hidOf z c (ix2 r j) = hidNext (fun r q => z (ix2 r q)) c r j := by
  pointwise [hidOf, sigm, hidNext]
  rw [cellOf_at]
  rfl

/-- What is returned, at an entry. -/
theorem outOf_at (h : FVec Ideal S1024x256 .f32) (wl : FVec Ideal S256x256 .f32) (bl : FVec Ideal S256 .f32) (wo : FVec Ideal S6x256 .f32)
    (bo : FVec Ideal S6 .f32) (r : Fin 1024) (o : Fin 6) : outOf h wl bl wo bo (ix2 r o) = readout h wl bl wo bo r o := by
  pointwise [outOf, readout]

end Cert.Proof.Ref

end
-- ==== Proof.RefEntry.lean ====
/-
  What the reference's loop starts from: the embedded tokens, zero states, and the arguments.
-/
module

public import proofs.«01_k».proof.Proof.RefCell

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo

/-- A token with negative ones counted from the end of the table. -/
def wrapped (x : IVec S50x1024 32) : IVec S50x1024 32 :=
  select (cmpi .slt x (broadcastInDim S50x1024 ![] bcast_S_S50x1024 (constantI S_ 32 0#32)))
    (addi x (broadcastInDim S50x1024 ![] bcast_S_S50x1024 (constantI S_ 32 100000#32))) x

/-- The tokens as a column of row numbers. -/
def column (x : IVec S50x1024 32) : IVec S50x1024x1 32 := broadcastInDim S50x1024x1 ![0, 1] bcast_S50x1024_S50x1024x1_0_1 (wrapped x)

/-- Which row numbers are rows of the table. -/
def isRow (i : IVec S50x1024x1 32) : IVec S50x1024 1 :=
  Host.reduce IntOp.andi
    (andi (cmpi .sge i (broadcastInDim S50x1024x1 ![] bcast_S_S50x1024x1 (constantI S_ 32 0#32)))
      (cmpi .sle i (broadcastInDim S50x1024x1 ![0, 1, 2] bcast_S1x1x1_S50x1024x1_0_1_2 (broadcastInDim S1x1x1 ![2] bcast_S1_S1x1x1_2 (constantI S1 32 99999#32)))))
    (constantI S_ 1 1#1) reducesTo_S50x1024x1_S50x1024_d2 h_S_

/-- The rows of the table that the tokens name, with a fill value where a token names none. -/
def taken (x : IVec S50x1024 32) (e : FVec Ideal S100000x128 .f32) : FVec Ideal S50x1024x128 .f32 :=
  select (broadcastInDim S50x1024x128 ![0, 1] bcast_S50x1024_S50x1024x128_0_1 (isRow (column x)))
    (Host.gather gather_S100000x128_S50x1024x1_S50x1024x128_2_0_n_n_0_2_1128 e (column x))
    (broadcastInDim S50x1024x128 ![] bcast_S_S50x1024x128 (constant S_ .f32 0x7FC00000#32))

/-- A state of zeros. -/
def zeros : FVec Ideal S1024x256 .f32 := broadcastInDim S1024x256 ![] bcast_S_S1024x256 (constant S_ .f32 0x00000000#32)

section Entry

variable (m : (ℓ : Loc nD τ sig) → Buf (Elt Ideal) ℓ) (c : Dev nD)

/-- The operations before the loop, as two stretches. -/
theorem entry_two : entryContents preI m c = after hostOps0_1 (after hostOps0 (fun b => m (c, b))) := by
  simp only [entryContents, afterL_cons, afterL_nil]

/-- The second stretch carries the embedded tokens into the loop. -/
theorem carry_seq (V : Valuation τ sig (Elt Ideal)) : after hostOps0_1 V (Proc.devRef .tc main_v3_0) = V (Proc.devRef .tc main_v0) := by
  after_results_simp
  rfl

/-- The first stretch embeds the tokens. -/
theorem embed_seq (V : Valuation τ sig (Elt Ideal)) : after hostOps0 V (Proc.devRef .tc main_v0)
    = taken (V (Proc.devRef .tc main_arg0)) (V (Proc.devRef .tc main_arg1)) := by
  after_results_simp
  simp only [TRef.ofBuf_toBuf]
  simp only [TRef.ofBuf, TRef.toBuf, cast_eq]
  unfold taken isRow column wrapped
  rfl

/-- The embedded tokens at the loop's entry. -/
theorem entry_seq : entryContents preI m c (Proc.devRef .tc main_v3_0)
    = taken (m ((c.tc : Thread nD τ).loc main_arg0)) (m ((c.tc : Thread nD τ).loc main_arg1)) := by
  rw [entry_two, carry_seq, embed_seq]

/-- The input weights at the loop's entry. -/
theorem entry_w : entryContents preI m c (Proc.devRef .tc main_v3_1) = m ((c.tc : Thread nD τ).loc main_arg2) := by
  simp only [entryContents, afterL_cons, afterL_nil]
  after_reads_simp
  rfl

/-- The first bias there. -/
theorem entry_bi : entryContents preI m c (Proc.devRef .tc main_v3_2) = m ((c.tc : Thread nD τ).loc main_arg4) := by
  simp only [entryContents, afterL_cons, afterL_nil]
  after_reads_simp
  rfl

/-- The recurrent weights there. -/
theorem entry_u : entryContents preI m c (Proc.devRef .tc main_v3_3) = m ((c.tc : Thread nD τ).loc main_arg3) := by
  simp only [entryContents, afterL_cons, afterL_nil]
  after_reads_simp
  rfl

/-- The second bias there. -/
theorem entry_bh : entryContents preI m c (Proc.devRef .tc main_v3_4) = m ((c.tc : Thread nD τ).loc main_arg5) := by
  simp only [entryContents, afterL_cons, afterL_nil]
  after_reads_simp
  rfl

/-- The hidden state there. -/
theorem entry_h : (entryContents preI m c (Proc.devRef .tc main_v3_6) : FVec Ideal S1024x256 .f32) = zeros := by
  simp only [entryContents, afterL_cons, afterL_nil]
  after_reads_simp
  rfl

/-- The cell content there. -/
theorem entry_c : (entryContents preI m c (Proc.devRef .tc main_v3_7) : FVec Ideal S1024x256 .f32) = zeros := by
  simp only [entryContents, afterL_cons, afterL_nil]
  after_reads_simp
  rfl

end Entry

/-- An entry of a state of zeros. -/
theorem zeros_at (r : Fin 1024) (j : Fin 256) : zeros (ix2 r j) = 0 := by
  pointwise [zeros]

/-- A word below the table's height is not negative, and is at most the last row. -/
theorem word_facts (w : BitVec 32) (h : w.toNat < 100000) :
    IntOp.cmpi .slt w 0#32 = 0#1 ∧ IntOp.cmpi .sge w 0#32 = 1#1 ∧ IntOp.cmpi .sle w 99999#32 = 1#1 ∧ w.toInt = w.toNat := by
  have hw : w.toInt = w.toNat := BitVec.toInt_eq_toNat_of_lt (by omega)
  have h0 : (0#32).toInt = 0 := rfl
  have h9 : (99999#32).toInt = 99999 := rfl
  refine ⟨?_, ?_, ?_, hw⟩
  · show BitVec.ofBool (decide (w.toInt < (0#32).toInt)) = 0#1
    rw [decide_eq_false (by omega)]
    rfl
  · show BitVec.ofBool (decide ((0#32).toInt ≤ w.toInt)) = 1#1
    rw [decide_eq_true (by omega)]
    rfl
  · show BitVec.ofBool (decide (w.toInt ≤ (99999#32).toInt)) = 1#1
    rw [decide_eq_true (by omega)]
    rfl

/-- A token in range is not moved. -/
theorem wrapped_at (x : IVec S50x1024 32) (s : Fin 50) (b : Fin 1024) (hx : (x (ix2 s b)).toNat < 100000) :
    wrapped x (ix2 s b) = x (ix2 s b) := by
  pointwise [wrapped]
  rw [(word_facts _ hx).1]
  rfl

/-- A token in range names a row. -/
theorem isRow_at (x : IVec S50x1024 32) (s : Fin 50) (b : Fin 1024) (hx : (x (ix2 s b)).toNat < 100000) :
    isRow (column x) (ix2 s b) = 1#1 := by
  pointwise [isRow, column]
  rw [wrapped_at x s b hx, (word_facts _ hx).2.1, (word_facts _ hx).2.2.1]
  rfl

/-- The gather reads the row that the row number names, when it is in range. -/
theorem gather_at (e : FVec Ideal S100000x128 .f32) (i : IVec S50x1024x1 32) (s : Fin 50) (b : Fin 1024) (k : Fin 128)
    (hi : (i (ix3 s b 0)).toNat < 100000) :
    Host.gather gather_S100000x128_S50x1024x1_S50x1024x128_2_0_n_n_0_2_1128 e i (ix3 s b k) = e (ix2 ⟨(i (ix3 s b 0)).toNat, hi⟩ k) := by
  have hs : gather_S100000x128_S50x1024x1_S50x1024x128_2_0_n_n_0_2_1128.siIdx (ix3 s b k) ⟨0, Nat.one_pos⟩ = ix3 s b 0 := by
    funext a
    match a with
    | 0 => rfl
    | 1 => rfl
    | 2 => rfl
  have h0 : gather_S100000x128_S50x1024x1_S50x1024x128_2_0_n_n_0_2_1128.start (ix3 s b k) i 0 = (i (ix3 s b 0)).toNat := by
    show min (i (gather_S100000x128_S50x1024x1_S50x1024x128_2_0_n_n_0_2_1128.siIdx (ix3 s b k) ⟨0, Nat.one_pos⟩)).toInt.toNat 99999 = _
    rw [hs, (word_facts _ hi).2.2.2]
    omega
  unfold Host.gather
  refine congrArg e (funext fun a => Fin.ext ?_)
  match a with
  | 0 => exact h0
  | 1 => exact Nat.zero_add _

/-- An entry of the embedded sequence: the row of the table that the token names. -/
theorem taken_at (x : IVec S50x1024 32) (e : FVec Ideal S100000x128 .f32) (s : Fin 50) (b : Fin 1024) (k : Fin 128) (hx : (x (ix2 s b)).toNat < 100000) :
    taken x e (ix3 s b k) = e (ix2 ⟨(x (ix2 s b)).toNat, hx⟩ k) := by
  have hc : column x (ix3 s b 0) = x (ix2 s b) := by
    pointwise [column]
    exact wrapped_at x s b hx
  pointwise [taken]
  rw [isRow_at x s b hx, gather_at e (column x) s b k (by rw [hc]; exact hx)]
  simp only [hc]
  rfl

end Cert.Proof.Ref

end
-- ==== Proof.Follow.lean ====
/-
  The kernel's result in the plain terms of the recurrence: the region's state follows any two sequences that satisfy
  the recurrence's equations, and what is returned is the readout of the last hidden state.
-/
module

public import proofs.«01_k».proof.Proof.Cell

@[expose] public section

set_option maxRecDepth 16384

noncomputable section

namespace Cert.Proof.Run

open Cert.KernelIdeal Cert.KernelIdeal.Gen Cert.Proof.Gate
open Idealize.ShloMosaic

variable (x : IVec S50x1024 32) (e : FVec Ideal S100000x128 .f32) (w : FVec Ideal S1024x128 .f32) (u : FVec Ideal S1024x256 .f32)
  (bi bh : FVec Ideal S1024 .f32) (wl : FVec Ideal S256x256 .f32) (bl : FVec Ideal S256 .f32) (wo : FVec Ideal S6x256 .f32) (bo : FVec Ideal S6 .f32)

/-- The embedded sequence, as the kernel's gather leaves it. -/
def seqOf : FVec Ideal S50x1024x128 .f32 := asSeq (F := Ideal) (gath (F := Ideal) e (shapeCast S51200 x shapeCasts_S50x1024_S51200))

/-- A block of the sequence is that step's rows. -/
theorem rowOf_at (s : FVec Ideal S50x1024x128 .f32) (n : ℕ) (hn : n < 50) (r : Fin 1024) (k : Fin 128) :
    rowOf (F := Ideal) s n hn (ix3 0 r k) = s (ix3 ⟨n, hn⟩ r k) :=
  congrArg s (funext fun a => match a with
    | ⟨0, _⟩ => rfl
    | ⟨1, _⟩ => rfl
    | ⟨2, _⟩ => rfl)

/-- The first step's rows. -/
theorem firstRows_at (s : FVec Ideal S50x1024x128 .f32) (r : Fin 1024) (k : Fin 128) : firstRows (F := Ideal) s (ix3 0 r k) = s (ix3 0 r k) := by
  pointwise [firstRows]

/-- Sequences that satisfy the recurrence's equations: hidden states `H` and cell contents `C`, from zero. -/
structure Recurs (s : FVec Ideal S50x1024x128 .f32) (w : FVec Ideal S1024x128 .f32) (u : FVec Ideal S1024x256 .f32)
    (bi bh : FVec Ideal S1024 .f32) (H C : ℕ → FVec Ideal S1024x256 .f32) : Prop where
  hid_zero : ∀ (r : Fin 1024) (j : Fin 256), H 0 (ix2 r j) = 0
  cell_zero : ∀ (r : Fin 1024) (j : Fin 256), C 0 (ix2 r j) = 0
  hid_succ : ∀ (n : ℕ) (hn : n < 50) (r : Fin 1024) (j : Fin 256),
    H (n + 1) (ix2 r j) = hidNext (gateArg (fun r k => s (ix3 ⟨n, hn⟩ r k)) (H n) w u bi bh) (C n) r j
  cell_succ : ∀ (n : ℕ) (hn : n < 50) (r : Fin 1024) (j : Fin 256),
    C (n + 1) (ix2 r j) = cellNext (gateArg (fun r k => s (ix3 ⟨n, hn⟩ r k)) (H n) w u bi bh) (C n) r j

/-- The cell contents of the recurrence are finite, whatever the inputs are. -/
theorem Recurs.finite {s : FVec Ideal S50x1024x128 .f32} {w : FVec Ideal S1024x128 .f32} {u : FVec Ideal S1024x256 .f32} {bi bh : FVec Ideal S1024 .f32}
    {H C : ℕ → FVec Ideal S1024x256 .f32} (R : Recurs s w u bi bh H C) (r : Fin 1024) (j : Fin 256) :
    ∀ n : ℕ, n < 50 → ∃ y : ℝ, C n (ix2 r j) = (y : EReal)
  | 0, _ => ⟨0, R.cell_zero r j⟩
  | n + 1, hn => by
    rw [R.cell_succ n (by omega) r j]
    exact cellNext_real _ _ r j (R.finite r j n (by omega))

/-- The region's state before point `n` holds the recurrence's states and the projection of step `n`'s input. -/
theorem state_follows {H C : ℕ → FVec Ideal S1024x256 .f32} (R : Recurs (seqOf x e) w u bi bh H C) : ∀ (n : ℕ) (hn : n < 50),
    ((operands (F := Ideal) x e w u bi bh wl bl wo bo).state n).h = H n ∧ ((operands (F := Ideal) x e w u bi bh wl bl wo bo).state n).c = C n
      ∧ ∀ r q : Fin 1024, ((operands (F := Ideal) x e w u bi bh wl bl wo bo).state n).x (ix2 r q)
          = ∑ k : Fin 128, seqOf x e (ix3 ⟨n, hn⟩ r k) * packX (F := Ideal) w (ix2 k q)
  | 0, _ => by
    refine ⟨?_, ?_, fun r q => ?_⟩
    · funext i
      idx_vars i
      refine Eq.trans ?_ (R.hid_zero _ _).symm
      show k1_pay4 (F := Ideal) (ix2 i0 i1) = 0
      pointwise [k1_pay4]
    · funext i
      idx_vars i
      refine Eq.trans ?_ (R.cell_zero _ _).symm
      show k1_pay5 (F := Ideal) (ix2 i0 i1) = 0
      pointwise [k1_pay5]
    · refine (pay6_at _ _ r q).trans (Finset.sum_congr rfl fun k _ => ?_)
      exact congrArg (· * _) (firstRows_at (seqOf x e) r k)
  | n + 1, hn => by
    obtain ⟨ih, ic, ix⟩ := state_follows R n (by omega)
    have hc := fun r j => R.finite r j n (by omega)
    refine ⟨?_, ?_, fun r q => ?_⟩
    · funext i
      idx_vars i
      refine Eq.trans ?_ (R.hid_succ n (by omega) _ _).symm
      show k1_pay1 (F := Ideal) (k1_pay10 (F := Ideal) _ _ (packH (F := Ideal) u) (row8 (packB (F := Ideal) bi bh)) _) (ix2 i0 i1) = _
      rw [ih, ic]
      pointwise [k1_pay1]
      exact pay10_hid _ _ _ _ w u bi bh ix _ _ (hc _ _)
    · funext i
      idx_vars i
      refine Eq.trans ?_ (R.cell_succ n (by omega) _ _).symm
      show k1_pay11 (F := Ideal) _ _ (packH (F := Ideal) u) (row8 (packB (F := Ideal) bi bh)) _ (ix2 i0 i1) = _
      rw [ih, ic]
      pointwise [k1_pay11]
      exact pay9_cell _ _ _ _ w u bi bh ix _ _ (hc _ _)
    · refine (pay2_at _ _ r q).trans (Finset.sum_congr rfl fun k _ => ?_)
      refine congrArg (· * _) ((rowOf_at (seqOf x e) _ _ r k).trans ?_)
      exact congrArg (fun t => seqOf x e (ix3 t r k)) (Fin.ext (Nat.min_eq_left (by omega)))

/-- What the kernel returns is the readout of the recurrence's last hidden state. -/
theorem kernelOut_at {H C : ℕ → FVec Ideal S1024x256 .f32} (R : Recurs (seqOf x e) w u bi bh H C) (r : Fin 1024) (o : Fin 6) :
    kernelOut (F := Ideal) x e w u bi bh wl bl wo bo (ix2 r o) = readout (H 50) wl bl wo bo r o := by
  obtain ⟨ih, ic, ix⟩ := state_follows x e w u bi bh wl bl wo bo R 49 (by omega)
  have hl : k1_pay10 (F := Ideal) ((operands (F := Ideal) x e w u bi bh wl bl wo bo).state 49).x ((operands (F := Ideal) x e w u bi bh wl bl wo bo).state 49).h
      (packH (F := Ideal) u) (row8 (packB (F := Ideal) bi bh)) ((operands (F := Ideal) x e w u bi bh wl bl wo bo).state 49).c = H 50 := by
    funext i
    idx_vars i
    rw [ih, ic]
    exact (pay10_hid _ _ _ _ w u bi bh ix _ _ (R.finite _ _ 49 (by omega))).trans (R.hid_succ 49 (by omega) _ _).symm
  have hs : kernelOut (F := Ideal) x e w u bi bh wl bl wo bo (ix2 r o)
      = (operands (F := Ideal) x e w u bi bh wl bl wo bo).result (ix2 r ⟨o.val, by omega⟩) := by
    pointwise [kernelOut]
  rw [hs]
  refine Eq.trans ?_ (pay3_readout (H 50) wl bl wo bo r o)
  exact congrArg (fun h => k1_pay3 (F := Ideal) h (linW (F := Ideal) wl) (row8 (linB (F := Ideal) bl)) (outW (F := Ideal) wo) (row8 (outB (F := Ideal) bo))
    (ix2 r ⟨o.val, by omega⟩)) hl

end Cert.Proof.Run

end
-- ==== Proof.Match.lean ====
/-
  The reference's loop satisfies the recurrence's equations, so that the reference returns what the kernel returns.
-/
module

public import proofs.«01_k».proof.Proof.RefCell
public import proofs.«01_k».proof.Proof.RefEntry
public import proofs.«01_k».proof.Proof.Follow

@[expose] public section

set_option maxRecDepth 16384

noncomputable section

namespace Cert.Proof.Ref

open Cert.ReferenceIdeal Cert.ReferenceIdeal.Gen Cert.ReferenceIdeal.Value Cert.Proof.Gate
open Cert.Proof.Run (gateArg cellNext hidNext readout Recurs seqOf kernelOut kernelOut_at asSeq_at)
open Idealize.ShloMosaic Idealize.ShloMosaic.TcCoe Idealize.ShloMosaic.StableHlo

variable (m : (ℓ : Loc nD τ sig) → Buf (Elt Ideal) ℓ) (c : Dev nD)

/-- The reference's buffers after `n` steps. -/
def vals (n : ℕ) : Valuation τ sig (Elt Ideal) := STEP^[n] (entryContents preI m c)

/-- One more step. -/
theorem vals_succ (n : ℕ) : vals m c (n + 1) = STEP (vals m c n) := Function.iterate_succ_apply' _ _ _

/-- A buffer that no step changes holds what it held at the loop's entry. -/
theorem vals_kept (b : DevRef τ sig) (h : ∀ V : Valuation τ sig (Elt Ideal), STEP V b = V b) :
    ∀ n, vals m c n b = entryContents preI m c b
  | 0 => rfl
  | n + 1 => by rw [vals_succ, h, vals_kept b h n]

/-- The counter, after `n` steps. -/
theorem vals_counter : ∀ n, vals m c n (Proc.devRef .tc main_v3_5) = fun _ => BitVec.ofNat 32 n
  | 0 => ctr_entry m c
  | n + 1 => by
    rw [vals_succ, STEP_main_v3_5]
    unfold step_main_v3_5
    rw [vals_counter n]
    funext i
    show BitVec.ofNat 32 n + 1#32 = BitVec.ofNat 32 (n + 1)
    exact (BitVec.ofNat_add n 1).symm

/-- Below fifty the counter's word is the number. -/
theorem counter_toInt (n : ℕ) (hn : n < 50) : (BitVec.ofNat 32 n).toInt = n := by
  have hw : (BitVec.ofNat 32 n).toNat = n := by rw [BitVec.toNat_ofNat]; exact Nat.mod_eq_of_lt (by omega)
  rw [BitVec.toInt_eq_toNat_of_lt (by omega), hw]

/-- The hidden state after `n` steps. -/
def hid (n : ℕ) : FVec Ideal S1024x256 .f32 := vals m c n (Proc.devRef .tc main_v3_6)

/-- The cell content after `n` steps. -/
def cell (n : ℕ) : FVec Ideal S1024x256 .f32 := vals m c n (Proc.devRef .tc main_v3_7)

variable (x : IVec S50x1024 32) (e : FVec Ideal S100000x128 .f32) (w : FVec Ideal S1024x128 .f32) (u : FVec Ideal S1024x256 .f32)
  (bi bh : FVec Ideal S1024 .f32)

/-- The gate arguments of step `n` at an entry. -/
theorem gates_at (h0 : m ((c.tc : Thread nD τ).loc main_arg0) = x) (h1 : m ((c.tc : Thread nD τ).loc main_arg1) = e) (h2 : m ((c.tc : Thread nD τ).loc main_arg2) = w)
    (h3 : m ((c.tc : Thread nD τ).loc main_arg3) = u) (h4 : m ((c.tc : Thread nD τ).loc main_arg4) = bi) (h5 : m ((c.tc : Thread nD τ).loc main_arg5) = bh)
    (n : ℕ) (hn : n < 50) (r q : Fin 1024) : res_main_while0b_v25 (vals m c n) (ix2 r q)
      = gateArg (fun r k => taken x e (ix3 ⟨n, hn⟩ r k)) (hid m c n) w u bi bh r q := by
  have ew : vals m c n (Proc.devRef .tc main_v3_1) = w := (vals_kept m c _ STEP_main_v3_1 n).trans ((entry_w m c).trans h2)
  have eb : vals m c n (Proc.devRef .tc main_v3_2) = bi := (vals_kept m c _ STEP_main_v3_2 n).trans ((entry_bi m c).trans h4)
  have eu : vals m c n (Proc.devRef .tc main_v3_3) = u := (vals_kept m c _ STEP_main_v3_3 n).trans ((entry_u m c).trans h3)
  have ed : vals m c n (Proc.devRef .tc main_v3_4) = bh := (vals_kept m c _ STEP_main_v3_4 n).trans ((entry_bh m c).trans h5)
  have es : vals m c n (Proc.devRef .tc main_v3_0) = taken x e := by
    rw [vals_kept m c _ STEP_main_v3_0 n, entry_seq, h0, h1]
  rw [gates_eq, ew, eb, eu, ed, es, vals_counter]
  exact gatesOf_at (taken x e) ⟨n, hn⟩ _ (fun _ => counter_toInt n hn) w u bi bh _ r q

/-- The reference's states satisfy the recurrence's equations. -/
theorem recurs (h0 : m ((c.tc : Thread nD τ).loc main_arg0) = x) (h1 : m ((c.tc : Thread nD τ).loc main_arg1) = e) (h2 : m ((c.tc : Thread nD τ).loc main_arg2) = w)
    (h3 : m ((c.tc : Thread nD τ).loc main_arg3) = u) (h4 : m ((c.tc : Thread nD τ).loc main_arg4) = bi) (h5 : m ((c.tc : Thread nD τ).loc main_arg5) = bh) :
    Recurs (taken x e) w u bi bh (hid m c) (cell m c) where
  hid_zero r j := (congrFun (entry_h m c) _).trans (zeros_at r j)
  cell_zero r j := (congrFun (entry_c m c) _).trans (zeros_at r j)
  hid_succ n hn r j := by
    unfold hid cell
    rw [vals_succ, STEP_main_v3_6, hid_eq]
    refine (hidOf_at _ _ r j).trans ?_
    exact congrArg (fun z => hidNext z _ r j) (funext fun r => funext fun q => gates_at m c x e w u bi bh h0 h1 h2 h3 h4 h5 n hn r q)
  cell_succ n hn r j := by
    unfold cell hid
    rw [vals_succ, STEP_main_v3_7, cell_eq]
    refine (cellOf_at _ _ r j).trans ?_
    exact congrArg (fun z => cellNext z _ r j) (funext fun r => funext fun q => gates_at m c x e w u bi bh h0 h1 h2 h3 h4 h5 n hn r q)

/-- With the tokens in range, the two embedded sequences are one. -/
theorem seq_eq (hx : ∀ j, (x j).toNat < 100000) : seqOf x e = taken x e := by
  funext i
  idx_vars i
  exact (asSeq_at e x _ _ _ (hx _)).trans (taken_at x e _ _ _ (hx _)).symm

variable (wl : FVec Ideal S256x256 .f32) (bl : FVec Ideal S256 .f32) (wo : FVec Ideal S6x256 .f32) (bo : FVec Ideal S6 .f32)

/-- The reference returns what the kernel returns from the same arguments, when the tokens are in range. -/
theorem returns_kernelOut (hx : ∀ j, (x j).toNat < 100000)
    (h0 : m ((c.tc : Thread nD τ).loc main_arg0) = x) (h1 : m ((c.tc : Thread nD τ).loc main_arg1) = e) (h2 : m ((c.tc : Thread nD τ).loc main_arg2) = w)
    (h3 : m ((c.tc : Thread nD τ).loc main_arg3) = u) (h4 : m ((c.tc : Thread nD τ).loc main_arg4) = bi) (h5 : m ((c.tc : Thread nD τ).loc main_arg5) = bh)
    (h6 : m ((c.tc : Thread nD τ).loc main_arg6) = wl) (h7 : m ((c.tc : Thread nD τ).loc main_arg7) = bl) (h8 : m ((c.tc : Thread nD τ).loc main_arg8) = wo)
    (h9 : m ((c.tc : Thread nD τ).loc main_arg9) = bo) :
    out_main_v13 (STEP^[50] (entryContents preI m c)) = kernelOut (F := Ideal) x e w u bi bh wl bl wo bo := by
  have R := recurs m c x e w u bi bh h0 h1 h2 h3 h4 h5
  rw [← seq_eq x e hx] at R
  rw [out_eq, iter_main_arg6 m c 50, iter_main_arg7 m c 50, iter_main_arg8 m c 50, iter_main_arg9 m c 50, h6, h7, h8, h9]
  funext i
  idx_vars i
  exact (outOf_at _ wl bl wo bo i0 i1).trans (kernelOut_at x e w u bi bh wl bl wo bo R i0 i1).symm

end Cert.Proof.Ref

end
-- ==== Proof.Algebraic.lean ====
/-
  Over the reals the kernel and the reference end with equal results.
-/
module

public import proofs.«01_k».proof.Proof.Match

@[expose] public section

set_option maxRecDepth 16384

noncomputable section

namespace Cert.Proof.Ref

open Cert.Proof.Run (kernelOut)
open Idealize.ShloMosaic Idealize.ShloMosaic.TcCoe

/-- From memories that hold the same arguments, with every token in the vocabulary, both programs run to their end, keep
    their arguments, and return the same array. -/
theorem algebraic : Cert.algebraic_KernelIdeal_ReferenceIdeal := by
  intro m g m' g' hpre hargs
  refine ⟨fun c => kernelOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
     (m ((c.tc : Thread Cert.KernelIdeal.nD Cert.KernelIdeal.τ).loc Cert.KernelIdeal.main_arg2)) (m ((c.tc : Thread Cert.KernelIdeal.nD Cert.KernelIdeal.τ).loc Cert.KernelIdeal.main_arg3))
     (m ((c.tc : Thread Cert.KernelIdeal.nD Cert.KernelIdeal.τ).loc Cert.KernelIdeal.main_arg4)) (m ((c.tc : Thread Cert.KernelIdeal.nD Cert.KernelIdeal.τ).loc Cert.KernelIdeal.main_arg5))
     (m ((c.tc : Thread Cert.KernelIdeal.nD Cert.KernelIdeal.τ).loc Cert.KernelIdeal.main_arg6)) (m ((c.tc : Thread Cert.KernelIdeal.nD Cert.KernelIdeal.τ).loc Cert.KernelIdeal.main_arg7))
     (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_)
      (Run.run_main (F := Ideal) m g fun d j => Run.vocab_bound _ _ _ _ _ _ _ _ _ _ (hpre d) j)
    exact ⟨Run.result_at m c r.2 (h.1 c), Run.args_kept m c r.2 (h.1 c) Cert.KernelIdeal.main_arg0 (by decide),
      Run.args_kept m c r.2 (h.1 c) Cert.KernelIdeal.main_arg1 (by decide),
      Run.args_kept m c r.2 (h.1 c) Cert.KernelIdeal.main_arg2 (by decide),
      Run.args_kept m c r.2 (h.1 c) Cert.KernelIdeal.main_arg3 (by decide),
      Run.args_kept m c r.2 (h.1 c) Cert.KernelIdeal.main_arg4 (by decide),
      Run.args_kept m c r.2 (h.1 c) Cert.KernelIdeal.main_arg5 (by decide),
      Run.args_kept m c r.2 (h.1 c) Cert.KernelIdeal.main_arg6 (by decide),
      Run.args_kept m c r.2 (h.1 c) Cert.KernelIdeal.main_arg7 (by decide),
      Run.args_kept m c r.2 (h.1 c) Cert.KernelIdeal.main_arg8 (by decide),
      Run.args_kept m c r.2 (h.1 c) Cert.KernelIdeal.main_arg9 (by decide)⟩
  · refine (θ_run Cert.ReferenceIdeal.defs _ _).mono (fun r h c => ?_) (Cert.ReferenceIdeal.Value.run m' g')
    obtain ⟨hr, hk⟩ := h c
    obtain ⟨h0, h1, h2, h3, h4, h5, h6, h7, h8, h9⟩ := hargs c
    exact ⟨hr.trans (returns_kernelOut m' c _ _ _ _ _ _ _ _ _ _ (fun j => Run.vocab_bound _ _ _ _ _ _ _ _ _ _ (hpre c) j)
      h0 h1 h2 h3 h4 h5 h6 h7 h8 h9), hk⟩

end Cert.Proof.Ref

end
-- ==== Proof.lean ====
/- The claims of this certificate, put together from the modules under Proof/. -/
module

public import proofs.«01_k».proof.Defs
public import proofs.«01_k».proof.Proof.Frames
public import proofs.«01_k».proof.Proof.RefFrame
public import proofs.«01_k».proof.Proof.Algebraic

@[expose] public section

noncomputable section

namespace Cert.Proof

/-- All the claims: the three frames, that nothing was rewritten, and that kernel and reference return equal arrays. -/
theorem claim : Cert.Claim := ⟨Cert.Kernel.Gen.facts, Cert.KernelIdeal.Gen.facts, Cert.ReferenceIdeal.Gen.facts, Cert.Pre_in_vocab.Gen.facts,
  Run.frame_kernel, Run.frame_kernelIdeal, Ref.frame_reference, Ref.frame_reference_pre, trivial, Ref.algebraic⟩

end Cert.Proof

end
